-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x2048x1024 : Shape := ⟨3, ![1, 2048, 1024]⟩
abbrev S1024 : Shape := ⟨1, ![1024]⟩
abbrev S1024x8 : Shape := ⟨2, ![1024, 8]⟩
abbrev S8 : Shape := ⟨1, ![8]⟩
abbrev S8x1024x64 : Shape := ⟨3, ![8, 1024, 64]⟩
abbrev S8x64x1024 : Shape := ⟨3, ![8, 64, 1024]⟩
abbrev S8x1024x256 : Shape := ⟨3, ![8, 1024, 256]⟩
abbrev S8x256x1024 : Shape := ⟨3, ![8, 256, 1024]⟩
abbrev S1x2048 : Shape := ⟨2, ![1, 2048]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1024 : S_.BroadcastsInDim S1024 (![] : Fin 0 → Fin S1024.rank)
  reducesTo_S1024_S_d0 : S1024.ReducesTo [0] S_
  bcast_S_S8x1024x64 : S_.BroadcastsInDim S8x1024x64 (![] : Fin 0 → Fin S8x1024x64.rank)
  reducesTo_S8x1024x64_S_d0_1_2 : S8x1024x64.ReducesTo [0, 1, 2] S_

variable [Facts]

def fn_part1 {F : FTy → Type} [FloatOps F] (main_arg6 : FVec F S8x1024x64 .f32) (main_v5 : IVec S_ 1) (main_v14 : IVec S_ 1) (main_v15 : FVec F S8x1024x64 .f32) (main_cst_5 : FVec F S_ .f32) : IVec S_ 1 :=
  let main_v16 : FVec F S8x1024x64 .f32 := broadcastInDim S8x1024x64 ![] bcast_S_S8x1024x64 main_cst_5
  let main_v17 : IVec S8x1024x64 1 := cmpf .olt main_v15 main_v16
  let main_c_6 : IVec S_ 1 := constantI S_ 1 1#1
  let main_v18 : IVec S_ 1 := (fun x v => Host.reduce IntOp.andi x v reducesTo_S8x1024x64_S_d0_1_2 h_S_) main_v17 main_c_6
  let main_v19 : FVec F S8x1024x64 .f32 := Host.absf main_arg6
  let main_cst_7 : FVec F S_ .f32 := constant S_ .f32 0x7F800000#32
  let main_v20 : FVec F S8x1024x64 .f32 := broadcastInDim S8x1024x64 ![] bcast_S_S8x1024x64 main_cst_7
  let main_v21 : IVec S8x1024x64 1 := cmpf .olt main_v19 main_v20
  let main_c_8 : IVec S_ 1 := constantI S_ 1 1#1
  let main_v22 : IVec S_ 1 := (fun x v => Host.reduce IntOp.andi x v reducesTo_S8x1024x64_S_d0_1_2 h_S_) main_v21 main_c_8
  let main_v23 : IVec S_ 1 := andi main_v18 main_v22
  let main_v24 : IVec S_ 1 := andi main_v5 main_v14
  let main_v25 : IVec S_ 1 := andi main_v24 main_v23
  main_v25

def fn {F : FTy → Type} [FloatOps F] (main_arg0 : FVec F S1x2048x1024 .f32) (main_arg1 : FVec F S1024 .f32) (main_arg2 : FVec F S1024 .f32) (main_arg3 : FVec F S1024x8 .f32) (main_arg4 : FVec F S8 .f32) (main_arg5 : FVec F S8x1024x64 .f32) (main_arg6 : FVec F S8x1024x64 .f32) (main_arg7 : FVec F S8x1024x64 .f32) (main_arg8 : FVec F S8x64x1024 .f32) (main_arg9 : FVec F S1024 .f32) (main_arg10 : FVec F S1024 .f32) (main_arg11 : FVec F S1024x8 .f32) (main_arg12 : FVec F S8 .f32) (main_arg13 : FVec F S8x1024x256 .f32) (main_arg14 : FVec F S8x256x1024 .f32) (main_arg15 : IVec S1x2048 32) : IVec S_ 1 :=
  let main_c : IVec S_ 32 := constantI S_ 32 0#32
  let main_v0 : IVec S1x2048 32 := broadcastInDim S1x2048 ![] bcast_S_S1x2048 main_c
  let main_v1 : IVec S1x2048 1 := cmpi .sge main_arg15 main_v0
  let main_c_0 : IVec S_ 32 := constantI S_ 32 4096#32
  let main_v2 : IVec S1x2048 32 := broadcastInDim S1x2048 ![] bcast_S_S1x2048 main_c_0
  let main_v3 : IVec S1x2048 1 := cmpi .slt main_arg15 main_v2
  let main_v4 : IVec S1x2048 1 := andi main_v1 main_v3
  let main_c_1 : IVec S_ 1 := constantI S_ 1 1#1
  let main_v5 : IVec S_ 1 := (fun x v => Host.reduce IntOp.andi x v reducesTo_S1x2048_S_d0_1 h_S_) main_v4 main_c_1
  let main_v6 : FVec F S1024 .f32 := Host.absf main_arg1
  let main_cst : FVec F S_ .f32 := constant S_ .f32 0x7F800000#32
  let main_v7 : FVec F S1024 .f32 := broadcastInDim S1024 ![] bcast_S_S1024 main_cst
  let main_v8 : IVec S1024 1 := cmpf .olt main_v6 main_v7
  let main_c_2 : IVec S_ 1 := constantI S_ 1 1#1
  let main_v9 : IVec S_ 1 := (fun x v => Host.reduce IntOp.andi x v reducesTo_S1024_S_d0 h_S_) main_v8 main_c_2
  let main_v10 : FVec F S1024 .f32 := Host.absf main_arg2
  let main_cst_3 : FVec F S_ .f32 := constant S_ .f32 0x7F800000#32
  let main_v11 : FVec F S1024 .f32 := broadcastInDim S1024 ![] bcast_S_S1024 main_cst_3
  let main_v12 : IVec S1024 1 := cmpf .olt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  let main_v15 : FVec F S8x1024x64 .f32 := Host.absf main_arg5
  let main_cst_5 : FVec F S_ .f32 := constant S_ .f32 0x7F800000#32
  fn_part1 (F := F) main_arg6 main_v5 main_v14 main_v15 main_cst_5
-- ==== Kernel.lean ====
abbrev S1x2048x1024 : Shape := ⟨3, ![1, 2048, 1024]⟩
abbrev S1024 : Shape := ⟨1, ![1024]⟩
abbrev S1024x8 : Shape := ⟨2, ![1024, 8]⟩
abbrev S8 : Shape := ⟨1, ![8]⟩
abbrev S8x1024x64 : Shape := ⟨3, ![8, 1024, 64]⟩
abbrev S8x64x1024 : Shape := ⟨3, ![8, 64, 1024]⟩
abbrev S8x1024x256 : Shape := ⟨3, ![8, 1024, 256]⟩
abbrev S8x256x1024 : Shape := ⟨3, ![8, 256, 1024]⟩
abbrev S1x2048 : Shape := ⟨2, ![1, 2048]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S1024x8x64 : Shape := ⟨3, ![1024, 8, 64]⟩
abbrev S1024x512 : Shape := ⟨2, ![1024, 512]⟩
abbrev S512x1024 : Shape := ⟨2, ![512, 1024]⟩
abbrev S32 : Shape := ⟨1, ![32]⟩
abbrev S1x32 : Shape := ⟨2, ![1, 32]⟩
abbrev S2048x32 : Shape := ⟨2, ![2048, 32]⟩
abbrev S2048x64 : Shape := ⟨2, ![2048, 64]⟩
abbrev S256x1024 : Shape := ⟨2, ![256, 1024]⟩
abbrev S256x1 : Shape := ⟨2, ![256, 1]⟩
abbrev S256x64 : Shape := ⟨2, ![256, 64]⟩
abbrev S64x2048 : Shape := ⟨2, ![64, 2048]⟩
abbrev S256x8 : Shape := ⟨2, ![256, 8]⟩
abbrev S256 : Shape := ⟨1, ![256]⟩
abbrev S256x512 : Shape := ⟨2, ![256, 512]⟩
abbrev S256x32 : Shape := ⟨2, ![256, 32]⟩
abbrev S64x256 : Shape := ⟨2, ![64, 256]⟩
abbrev S256x2048 : Shape := ⟨2, ![256, 2048]⟩
abbrev S1024x64 : Shape := ⟨2, ![1024, 64]⟩
abbrev S1x1024x256 : Shape := ⟨3, ![1, 1024, 256]⟩
abbrev S1024x256 : Shape := ⟨2, ![1024, 256]⟩
abbrev S256x256 : Shape := ⟨2, ![256, 256]⟩
abbrev S1x256x1024 : Shape := ⟨3, ![1, 256, 1024]⟩

abbrev nBuf : Space → Nat
  | .hbm => 127
  | .vmem => 26
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024, .f32⟩
  | .hbm, ⟨3, _⟩ => ⟨S1024x8, .f32⟩
  | .hbm, ⟨4, _⟩ => ⟨S8, .f32⟩
  | .hbm, ⟨5, _⟩ => ⟨S8x1024x64, .f32⟩
  | .hbm, ⟨6, _⟩ => ⟨S8x1024x64, .f32⟩
  | .hbm, ⟨7, _⟩ => ⟨S8x1024x64, .f32⟩
  | .hbm, ⟨8, _⟩ => ⟨S8x64x1024, .f32⟩
  | .hbm, ⟨9, _⟩ => ⟨S1024, .f32⟩
  | .hbm, ⟨10, _⟩ => ⟨S1024, .f32⟩
  | .hbm, ⟨11, _⟩ => ⟨S1024x8, .f32⟩
  | .hbm, ⟨12, _⟩ => ⟨S8, .f32⟩
  | .hbm, ⟨13, _⟩ => ⟨S8x1024x256, .f32⟩
  | .hbm, ⟨14, _⟩ => ⟨S8x256x1024, .f32⟩
  | .hbm, ⟨15, _⟩ => ⟨S1x2048, .i32⟩
  | .hbm, ⟨16, _⟩ => ⟨S2048x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S1024x8, .f32⟩
  | .hbm, ⟨53, _⟩ => ⟨S_, .f32⟩
  | .hbm, ⟨54, _⟩ => ⟨S8, .f32⟩
  | .hbm, ⟨55, _⟩ => ⟨S1x8, .f32⟩
  | .hbm, ⟨56, _⟩ => ⟨S1x8, .f32⟩
  | .hbm, ⟨57, _⟩ => ⟨S_, .f32⟩
  | .hbm, ⟨58, _⟩ => ⟨S1x8, .f32⟩
  | .hbm, ⟨59, _⟩ => ⟨S1x8, .f32⟩
  | .hbm, ⟨60, _⟩ => ⟨S1024x8, .f32⟩
  | .hbm, ⟨61, _⟩ => ⟨S1024x8, .f32⟩
  | .hbm, ⟨62, _⟩ => ⟨S1024x8, .f32⟩
  | .hbm, ⟨63, _⟩ => ⟨S_, .f32⟩
  | .hbm, ⟨64, _⟩ => ⟨S8, .f32⟩
  | .hbm, ⟨65, _⟩ => ⟨S1x8, .f32⟩
  | .hbm, ⟨66, _⟩ => ⟨S1x8, .f32⟩
  | .hbm, ⟨67, _⟩ => ⟨S_, .f32⟩
  | .hbm, ⟨68, _⟩ => ⟨S1x8, .f32⟩
  | .hbm, ⟨69, _⟩ => ⟨S1x8, .f32⟩
  | .hbm, ⟨70, _⟩ => ⟨S1024x8, .f32⟩
  | .hbm, ⟨71, _⟩ => ⟨S1024x8, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S_, .f32⟩
  | .hbm, ⟨78, _⟩ => ⟨S8, .f32⟩
  | .hbm, ⟨79, _⟩ => ⟨S8, .f32⟩
  | .hbm, ⟨80, _⟩ => ⟨S1x8, .f32⟩
  | .hbm, ⟨81, _⟩ => ⟨S8, .f32⟩
  | .hbm, ⟨82, _⟩ => ⟨S8, .f32⟩
  | .hbm, ⟨83, _⟩ => ⟨S_, .f32⟩
  | .hbm, ⟨84, _⟩ => ⟨S8, .f32⟩
  | .hbm, ⟨85, _⟩ => ⟨S8, .f32⟩
  | .hbm, ⟨86, _⟩ => ⟨S_, .f32⟩
  | .hbm, ⟨87, _⟩ => ⟨S8, .f32⟩
  | .hbm, ⟨88, _⟩ => ⟨S8, .f32⟩
  | .hbm, ⟨89, _⟩ => ⟨S1x8, .f32⟩
  | .hbm, ⟨90, _⟩ => ⟨S1024x8x64, .f32⟩
  | .hbm, ⟨91, _⟩ => ⟨S1024x512, .f32⟩
  | .hbm, ⟨92, _⟩ => ⟨S1024x8x64, .f32⟩
  | .hbm, ⟨93, _⟩ => ⟨S1024x512, .f32⟩
  | .hbm, ⟨94, _⟩ => ⟨S1024x8x64, .f32⟩
  | .hbm, ⟨95, _⟩ => ⟨S1024x512, .f32⟩
  | .hbm, ⟨96, _⟩ => ⟨S512x1024, .f32⟩
  | .hbm, ⟨97, _⟩ => ⟨S2048, .i32⟩
  | .hbm, ⟨98, _⟩ => ⟨S2048, .f32⟩
  | .hbm, ⟨99, _⟩ => ⟨S32, .f32⟩
  | .hbm, ⟨100, _⟩ => ⟨S_, .f32⟩
  | .hbm, ⟨101, _⟩ => ⟨S32, .f32⟩
  | .hbm, ⟨102, _⟩ => ⟨S32, .f32⟩
  | .hbm, ⟨103, _⟩ => ⟨S_, .f32⟩
  | .hbm, ⟨104, _⟩ => ⟨S32, .f32⟩
  | .hbm, ⟨105, _⟩ => ⟨S32, .f32⟩
  | .hbm, ⟨106, _⟩ => ⟨S_, .f32⟩
  | .hbm, ⟨107, _⟩ => ⟨S32, .f32⟩
  | .hbm, ⟨108, _⟩ => ⟨S32, .f32⟩
  | .hbm, ⟨109, _⟩ => ⟨S_, .f32⟩
  | .hbm, ⟨110, _⟩ => ⟨S32, .f32⟩
  | .hbm, ⟨111, _⟩ => ⟨S32, .f32⟩
  | .hbm, ⟨112, _⟩ => ⟨S_, .f32⟩
  | .hbm, ⟨113, _⟩ => ⟨S32, .f32⟩
  | .hbm, ⟨114, _⟩ => ⟨S32, .f32⟩
  | .hbm, ⟨115, _⟩ => ⟨S2048x1, .f32⟩
  | .hbm, ⟨116, _⟩ => ⟨S1x32, .f32⟩
  | .hbm, ⟨117, _⟩ => ⟨S2048x32, .f32⟩
  | .hbm, ⟨118, _⟩ => ⟨S2048x32, .f32⟩
  | .hbm, ⟨119, _⟩ => ⟨S2048x32, .f32⟩
  | .hbm, ⟨120, _⟩ => ⟨S2048x64, .f32⟩
  | .hbm, ⟨121, _⟩ => ⟨S2048x64, .f32⟩
  | .hbm, ⟨122, _⟩ => ⟨S2048x64, .f32⟩
  | .hbm, ⟨123, _⟩ => ⟨S1x1024, .f32⟩
  | .hbm, ⟨124, _⟩ => ⟨S1x1024, .f32⟩
  | .hbm, ⟨125, _⟩ => ⟨S2048x1024, .f32⟩
  | .hbm, ⟨126, _⟩ => ⟨S1x2048x1024, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S256x1024, .f32⟩
  | .local _ .vmem, ⟨5, _⟩ => ⟨S256x1024, .f32⟩
  | .local _ .vmem, ⟨6, _⟩ => ⟨S1024x8, .f32⟩
  | .local _ .vmem, ⟨7, _⟩ => ⟨S1x8, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | .local _ .vmem, ⟨14, _⟩ => ⟨S256x64, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S1024x8, .f32⟩
  | .local _ .vmem, ⟨19, _⟩ => ⟨S1x8, .f32⟩
  | .local _ .vmem, ⟨20, _⟩ => ⟨S8x1024x256, .f32⟩
  | .local _ .vmem, ⟨21, _⟩ => ⟨S8x256x1024, .f32⟩
  | .local _ .vmem, ⟨22, _⟩ => ⟨S256x1024, .f32⟩
  | .local _ .vmem, ⟨23, _⟩ => ⟨S256x1024, .f32⟩
  | .local _ .vmem, ⟨24, _⟩ => ⟨S64x2048, .f32⟩
  | .local _ .vmem, ⟨25, _⟩ => ⟨S2048x64, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_cst_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_cst_15 : Ref sig .tc := ⟨.hbm, 103, rfl⟩
abbrev main_v71 : Ref sig .tc := ⟨.hbm, 104, rfl⟩
abbrev main_v72 : Ref sig .tc := ⟨.hbm, 105, rfl⟩
abbrev main_cst_16 : Ref sig .tc := ⟨.hbm, 106, rfl⟩
abbrev main_v73 : Ref sig .tc := ⟨.hbm, 107, rfl⟩
abbrev main_v74 : Ref sig .tc := ⟨.hbm, 108, rfl⟩
abbrev main_cst_17 : Ref sig .tc := ⟨.hbm, 109, rfl⟩
abbrev main_v75 : Ref sig .tc := ⟨.hbm, 110, rfl⟩
abbrev main_v76 : Ref sig .tc := ⟨.hbm, 111, rfl⟩
abbrev main_cst_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_36 : Index := 0#32
  let arg0 : BitVec 32 := BitVec.ofNat 32 (i 0).val
  let c256_i32 : BitVec 32 := 256#32
  let v214 : BitVec 32 := Scalar.muli arg0 c256_i32
  let v215 : Index := Scalar.indexCast v214
  ![0, v215.toNat]
def k0_off2 (i : grid0.Coords) : Fin 2 → Nat :=
  let arg0 : BitVec 32 := BitVec.ofNat 32 (i 0).val
  let c256_i32_37 : BitVec 32 := 256#32
  let v219 : BitVec 32 := Scalar.muli arg0 c256_i32_37
  let v220 : Index := Scalar.indexCast v219
  let c0_38 : Index := 0#32
  ![v220.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024 : Shape := ⟨1, ![1024]⟩
abbrev S1024x8 : Shape := ⟨2, ![1024, 8]⟩
abbrev S8 : Shape := ⟨1, ![8]⟩
abbrev S8x1024x64 : Shape := ⟨3, ![8, 1024, 64]⟩
abbrev S8x64x1024 : Shape := ⟨3, ![8, 64, 1024]⟩
abbrev S8x1024x256 : Shape := ⟨3, ![8, 1024, 256]⟩
abbrev S8x256x1024 : Shape := ⟨3, ![8, 256, 1024]⟩
abbrev S1x2048 : Shape := ⟨2, ![1, 2048]⟩
abbrev S_ : Shape := ⟨0, ![]⟩
abbrev S1x2048x1 : Shape := ⟨3, ![1, 2048, 1]⟩
abbrev S1x1x1024 : Shape := ⟨3, ![1, 1, 1024]⟩
abbrev S2048x1024 : Shape := ⟨2, ![2048, 1024]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x2 : Shape := ⟨2, ![2048, 2]⟩
abbrev S2048x2x1 : Shape := ⟨3, ![2048, 2, 1]⟩
abbrev S1x1x8 : Shape := ⟨3, ![1, 1, 8]⟩
abbrev S2048x2x8 : Shape := ⟨3, ![2048, 2, 8]⟩
abbrev S8x64x2048 : Shape := ⟨3, ![8, 64, 2048]⟩
abbrev S2048x64 : Shape := ⟨2, ![2048, 64]⟩
abbrev S1x2048x64 : Shape := ⟨3, ![1, 2048, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x2048x32 : Shape := ⟨3, ![1, 2048, 32]⟩
abbrev S1x2048x2048 : Shape := ⟨3, ![1, 2048, 2048]⟩
abbrev S2048x2048 : Shape := ⟨2, ![2048, 2048]⟩
abbrev S2048x1x64 : Shape := ⟨3, ![2048, 1, 64]⟩
abbrev S2048x8x1 : Shape := ⟨3, ![2048, 8, 1]⟩
abbrev S2048x8x64 : Shape := ⟨3, ![2048, 8, 64]⟩
abbrev S2048x8x256 : Shape := ⟨3, ![2048, 8, 256]⟩

abbrev nBuf : Space → Nat
  | .hbm => 367
  | .vmem => 0
  | .smem => 0
  | _ => 0

abbrev hbmTy0_0 (i : Nat) : BufTy := match i % 128 with
  | 0 => ⟨S1x2048x1024, .f32⟩
  | 1 => ⟨S1024, .f32⟩
  | 2 => ⟨S1024, .f32⟩
  | 3 => ⟨S1024x8, .f32⟩
  | 4 => ⟨S8, .f32⟩
  | 5 => ⟨S8x1024x64, .f32⟩
  | 6 => ⟨S8x1024x64, .f32⟩
  | 7 => ⟨S8x1024x64, .f32⟩
  | 8 => ⟨S8x64x1024, .f32⟩
  | 9 => ⟨S1024, .f32⟩
  | 10 => ⟨S1024, .f32⟩
  | 11 => ⟨S1024x8, .f32⟩
  | 12 => ⟨S8, .f32⟩
  | 13 => ⟨S8x1024x256, .f32⟩
  | 14 => ⟨S8x256x1024, .f32⟩
  | 15 => ⟨S1x2048, .i32⟩
  | 16 => ⟨S_, .f32⟩
  | 17 => ⟨S1x2048, .f32⟩
  | 18 => ⟨S1x2048x1, .f32⟩
  | 19 => ⟨S_, .f32⟩
  | 20 => ⟨S1x2048x1, .f32⟩
  | 21 => ⟨S1x2048x1, .f32⟩
  | 22 => ⟨S1x2048x1024, .f32⟩
  | 23 => ⟨S1x2048x1024, .f32⟩
  | 24 => ⟨S1x2048x1024, .f32⟩
  | 25 => ⟨S_, .f32⟩
  | 26 => ⟨S1x2048, .f32⟩
  | 27 => ⟨S1x2048x1, .f32⟩
  | 28 => ⟨S_, .f32⟩
  | 29 => ⟨S1x2048x1, .f32⟩
  | 30 => ⟨S1x2048x1, .f32⟩
  | 31 => ⟨S1x2048x1024, .f32⟩
  | 32 => ⟨S1x2048x1024, .f32⟩
  | 33 => ⟨S_, .f32⟩
  | 34 => ⟨S1x2048x1, .f32⟩
  | 35 => ⟨S1x2048x1, .f32⟩
  | 36 => ⟨S1x2048x1, .f32⟩
  | 37 => ⟨S1x2048x1024, .f32⟩
  | 38 => ⟨S1x2048x1024, .f32⟩
  | 39 => ⟨S1x1x1024, .f32⟩
  | 40 => ⟨S1x2048x1024, .f32⟩
  | 41 => ⟨S1x2048x1024, .f32⟩
  | 42 => ⟨S1x1x1024, .f32⟩
  | 43 => ⟨S1x2048x1024, .f32⟩
  | 44 => ⟨S1x2048x1024, .f32⟩
  | 45 => ⟨S2048x1024, .f32⟩
  | 46 => ⟨S2048x1024, .f32⟩
  | 47 => ⟨S_, .f32⟩
  | 48 => ⟨S2048, .f32⟩
  | 49 => ⟨S2048x1, .f32⟩
  | 50 => ⟨S2048x1, .f32⟩
  | 51 => ⟨S_, .f32⟩
  | 52 => ⟨S2048x1, .f32⟩
  | 53 => ⟨S2048x1, .f32⟩
  | 54 => ⟨S2048x1024, .f32⟩
  | 55 => ⟨S2048x1024, .f32⟩
  | 56 => ⟨S1024x8, .f32⟩
  | 57 => ⟨S_, .f32⟩
  | 58 => ⟨S8, .f32⟩
  | 59 => ⟨S1x8, .f32⟩
  | 60 => ⟨S1x8, .f32⟩
  | 61 => ⟨S_, .f32⟩
  | 62 => ⟨S1x8, .f32⟩
  | 63 => ⟨S1x8, .f32⟩
  | 64 => ⟨S1024x8, .f32⟩
  | 65 => ⟨S1024x8, .f32⟩
  | 66 => ⟨S2048x8, .f32⟩
  | 67 => ⟨S8, .f32⟩
  | 68 => ⟨S8, .f32⟩
  | 69 => ⟨S_, .f32⟩
  | 70 => ⟨S8, .f32⟩
  | 71 => ⟨S8, .f32⟩
  | 72 => ⟨S_, .f32⟩
  | 73 => ⟨S8, .f32⟩
  | 74 => ⟨S8, .f32⟩
  | 75 => ⟨S1x8, .f32⟩
  | 76 => ⟨S2048x8, .f32⟩
  | 77 => ⟨S2048x8, .f32⟩
  | 78 => ⟨S_, .f32⟩
  | 79 => ⟨S2048x8, .f32⟩
  | 80 => ⟨S2048x8, .f32⟩
  | 81 => ⟨S_, .f32⟩
  | 82 => ⟨S2048x8, .f32⟩
  | 83 => ⟨S2048x8, .i1⟩
  | 84 => ⟨S2048x8, .f32⟩
  | 85 => ⟨S_, .f32⟩
  | 86 => ⟨S2048, .f32⟩
  | 87 => ⟨S_, .f32⟩
  | 88 => ⟨S2048, .f32⟩
  | 89 => ⟨S2048, .i1⟩
  | 90 => ⟨S2048x2, .f32⟩
  | 91 => ⟨S2048x2, .i32⟩
  | 92 => ⟨S2048x2x1, .i32⟩
  | 93 => ⟨S1x1x8, .i32⟩
  | 94 => ⟨S2048x2x8, .i32⟩
  | 95 => ⟨S2048x2x8, .i32⟩
  | 96 => ⟨S2048x2x8, .i1⟩
  | 97 => ⟨S2048x2x8, .f32⟩
  | 98 => ⟨S_, .f32⟩
  | 99 => ⟨S2048x8, .f32⟩
  | 100 => ⟨S_, .f32⟩
  | 101 => ⟨S2048x8, .f32⟩
  | 102 => ⟨S2048x8, .f32⟩
  | 103 => ⟨S2048x1, .i1⟩
  | 104 => ⟨S2048x8, .i1⟩
  | 105 => ⟨S2048x8, .f32⟩
  | 106 => ⟨S_, .f32⟩
  | 107 => ⟨S2048x8, .f32⟩
  | 108 => ⟨S2048x8, .i1⟩
  | 109 => ⟨S_, .f32⟩
  | 110 => ⟨S_, .f32⟩
  | 111 => ⟨S2048x8, .f32⟩
  | 112 => ⟨S2048x8, .f32⟩
  | 113 => ⟨S_, .f32⟩
  | 114 => ⟨S2048, .f32⟩
  | 115 => ⟨S_, .f32⟩
  | 116 => ⟨S2048, .f32⟩
  | 117 => ⟨S2048, .f32⟩
  | 118 => ⟨S2048x1, .f32⟩
  | 119 => ⟨S2048x8, .f32⟩
  | 120 => ⟨S2048x8, .f32⟩
  | 121 => ⟨S2048x8, .f32⟩
  | 122 => ⟨S_, .f32⟩
  | 123 => ⟨S2048, .f32⟩
  | 124 => ⟨S2048x1, .f32⟩
  | 125 => ⟨S2048x8, .f32⟩
  | 126 => ⟨S2048x8, .f32⟩
  | 127 => ⟨S2048x8, .f32⟩
  | _ => ⟨S1x2048x1024, .f32⟩

abbrev hbmTy0_1 (i : Nat) : BufTy := match i % 128 with
  | 0 => ⟨S8x64x2048, .f32⟩
  | 1 => ⟨S2048x64, .f32⟩
  | 2 => ⟨S1x2048x64, .f32⟩
  | 3 => ⟨S8x64x2048, .f32⟩
  | 4 => ⟨S2048x64, .f32⟩
  | 5 => ⟨S1x2048x64, .f32⟩
  | 6 => ⟨S8x64x2048, .f32⟩
  | 7 => ⟨S2048x64, .f32⟩
  | 8 => ⟨S1x2048x64, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S4096, .f32⟩
  | 26 => ⟨S4096x1, .f32⟩
  | 27 => ⟨S1x32, .f32⟩
  | 28 => ⟨S4096x32, .f32⟩
  | 29 => ⟨S4096x32, .f32⟩
  | 30 => ⟨S4096x32, .f32⟩
  | 31 => ⟨S4096x64, .f32⟩
  | 32 => ⟨S4096x64, .f32⟩
  | 33 => ⟨S_, .i32⟩
  | 34 => ⟨S1x2048, .i32⟩
  | 35 => ⟨S1x2048, .i1⟩
  | 36 => ⟨S_, .i32⟩
  | 37 => ⟨S1x2048, .i32⟩
  | 38 => ⟨S1x2048, .i32⟩
  | 39 => ⟨S1x2048, .i32⟩
  | 40 => ⟨S1x2048x1, .i32⟩
  | 41 => ⟨S1x2048x64, .f32⟩
  | 42 => ⟨S4096x64, .f32⟩
  | 43 => ⟨S_, .i32⟩
  | 44 => ⟨S1x2048, .i32⟩
  | 45 => ⟨S1x2048, .i1⟩
  | 46 => ⟨S_, .i32⟩
  | 47 => ⟨S1x2048, .i32⟩
  | 48 => ⟨S1x2048, .i32⟩
  | 49 => ⟨S1x2048, .i32⟩
  | 50 => ⟨S1x2048x1, .i32⟩
  | 51 => ⟨S1x2048x64, .f32⟩
  | 52 => ⟨S1x2048x64, .f32⟩
  | 53 => ⟨S1x2048x32, .f32⟩
  | 54 => ⟨S1x2048x32, .f32⟩
  | 55 => ⟨S1x2048x32, .f32⟩
  | 56 => ⟨S1x2048x64, .f32⟩
  | 57 => ⟨S1x2048x64, .f32⟩
  | 58 => ⟨S1x2048x64, .f32⟩
  | 59 => ⟨S1x2048x64, .f32⟩
  | 60 => ⟨S1x2048x32, .f32⟩
  | 61 => ⟨S1x2048x32, .f32⟩
  | 62 => ⟨S1x2048x32, .f32⟩
  | 63 => ⟨S1x2048x64, .f32⟩
  | 64 => ⟨S1x2048x64, .f32⟩
  | 65 => ⟨S1x2048x64, .f32⟩
  | 66 => ⟨S1x2048x2048, .f32⟩
  | 67 => ⟨S_, .f32⟩
  | 68 => ⟨S_, .f32⟩
  | 69 => ⟨S1x2048x2048, .f32⟩
  | 70 => ⟨S1x2048x2048, .f32⟩
  | 71 => ⟨S_, .i1⟩
  | 72 => ⟨S2048x2048, .i1⟩
  | 73 => ⟨S2048x2048, .i32⟩
  | 74 => ⟨S_, .i32⟩
  | 75 => ⟨S2048x2048, .i32⟩
  | 76 => ⟨S2048x2048, .i32⟩
  | 77 => ⟨S2048x2048, .i32⟩
  | 78 => ⟨S2048x2048, .i1⟩
  | 79 => ⟨S_, .i1⟩
  | 80 => ⟨S2048x2048, .i1⟩
  | 81 => ⟨S2048x2048, .i1⟩
  | 82 => ⟨S1x2048x2048, .i1⟩
  | 83 => ⟨S_, .f32⟩
  | 84 => ⟨S_, .f32⟩
  | 85 => ⟨S1x2048x2048, .f32⟩
  | 86 => ⟨S1x2048x2048, .f32⟩
  | 87 => ⟨S_, .f32⟩
  | 88 => ⟨S1x2048, .f32⟩
  | 89 => ⟨S_, .f32⟩
  | 90 => ⟨S1x2048, .f32⟩
  | 91 => ⟨S1x2048, .f32⟩
  | 92 => ⟨S1x2048x1, .f32⟩
  | 93 => ⟨S1x2048x2048, .f32⟩
  | 94 => ⟨S1x2048x2048, .f32⟩
  | 95 => ⟨S1x2048x2048, .f32⟩
  | 96 => ⟨S_, .f32⟩
  | 97 => ⟨S1x2048, .f32⟩
  | 98 => ⟨S1x2048x1, .f32⟩
  | 99 => ⟨S1x2048x2048, .f32⟩
  | 100 => ⟨S1x2048x2048, .f32⟩
  | 101 => ⟨S1x2048x64, .f32⟩
  | 102 => ⟨S2048x64, .f32⟩
  | 103 => ⟨S2048x1x64, .f32⟩
  | 104 => ⟨S2048x8x1, .f32⟩
  | 105 => ⟨S2048x8x64, .f32⟩
  | 106 => ⟨S2048x8x64, .f32⟩
  | 107 => ⟨S2048x8x64, .f32⟩
  | 108 => ⟨S2048x1024, .f32⟩
  | 109 => ⟨S1x2048x1024, .f32⟩
  | 110 => ⟨S1x2048x1024, .f32⟩
  | 111 => ⟨S_, .f32⟩
  | 112 => ⟨S1x2048, .f32⟩
  | 113 => ⟨S1x2048x1, .f32⟩
  | 114 => ⟨S_, .f32⟩
  | 115 => ⟨S1x2048x1, .f32⟩
  | 116 => ⟨S1x2048x1, .f32⟩
  | 117 => ⟨S1x2048x1024, .f32⟩
  | 118 => ⟨S1x2048x1024, .f32⟩
  | 119 => ⟨S1x2048x1024, .f32⟩
  | 120 => ⟨S_, .f32⟩
  | 121 => ⟨S1x2048, .f32⟩
  | 122 => ⟨S1x2048x1, .f32⟩
  | 123 => ⟨S_, .f32⟩
  | 124 => ⟨S1x2048x1, .f32⟩
  | 125 => ⟨S1x2048x1, .f32⟩
  | 126 => ⟨S1x2048x1024, .f32⟩
  | 127 => ⟨S1x2048x1024, .f32⟩
  | _ => ⟨S1x2048x1024, .f32⟩

abbrev hbmTy0_2 (i : Nat) : BufTy := match i % 128 with
  | 0 => ⟨S_, .f32⟩
  | 1 => ⟨S1x2048x1, .f32⟩
  | 2 => ⟨S1x2048x1, .f32⟩
  | 3 => ⟨S1x2048x1, .f32⟩
  | 4 => ⟨S1x2048x1024, .f32⟩
  | 5 => ⟨S1x2048x1024, .f32⟩
  | 6 => ⟨S1x1x1024, .f32⟩
  | 7 => ⟨S1x2048x1024, .f32⟩
  | 8 => ⟨S1x2048x1024, .f32⟩
  | 9 => ⟨S1x1x1024, .f32⟩
  | 10 => ⟨S1x2048x1024, .f32⟩
  | 11 => ⟨S1x2048x1024, .f32⟩
  | 12 => ⟨S2048x1024, .f32⟩
  | 13 => ⟨S2048x1024, .f32⟩
  | 14 => ⟨S_, .f32⟩
  | 15 => ⟨S2048, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1024, .f32⟩
  | 22 => ⟨S2048x1024, .f32⟩
  | 23 => ⟨S1024x8, .f32⟩
  | 24 => ⟨S_, .f32⟩
  | 25 => ⟨S8, .f32⟩
  | 26 => ⟨S1x8, .f32⟩
  | 27 => ⟨S1x8, .f32⟩
  | 28 => ⟨S_, .f32⟩
  | 29 => ⟨S1x8, .f32⟩
  | 30 => ⟨S1x8, .f32⟩
  | 31 => ⟨S1024x8, .f32⟩
  | 32 => ⟨S1024x8, .f32⟩
  | 33 => ⟨S2048x8, .f32⟩
  | 34 => ⟨S8, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S1x8, .f32⟩
  | 43 => ⟨S2048x8, .f32⟩
  | 44 => ⟨S2048x8, .f32⟩
  | 45 => ⟨S_, .f32⟩
  | 46 => ⟨S2048x8, .f32⟩
  | 47 => ⟨S2048x8, .f32⟩
  | 48 => ⟨S_, .f32⟩
  | 49 => ⟨S2048x8, .f32⟩
  | 50 => ⟨S2048x8, .i1⟩
  | 51 => ⟨S2048x8, .f32⟩
  | 52 => ⟨S_, .f32⟩
  | 53 => ⟨S2048, .f32⟩
  | 54 => ⟨S_, .f32⟩
  | 55 => ⟨S2048, .f32⟩
  | 56 => ⟨S2048, .i1⟩
  | 57 => ⟨S2048x2, .f32⟩
  | 58 => ⟨S2048x2, .i32⟩
  | 59 => ⟨S2048x2x1, .i32⟩
  | 60 => ⟨S1x1x8, .i32⟩
  | 61 => ⟨S2048x2x8, .i32⟩
  | 62 => ⟨S2048x2x8, .i32⟩
  | 63 => ⟨S2048x2x8, .i1⟩
  | 64 => ⟨S2048x2x8, .f32⟩
  | 65 => ⟨S_, .f32⟩
  | 66 => ⟨S2048x8, .f32⟩
  | 67 => ⟨S_, .f32⟩
  | 68 => ⟨S2048x8, .f32⟩
  | 69 => ⟨S2048x8, .f32⟩
  | 70 => ⟨S2048x1, .i1⟩
  | 71 => ⟨S2048x8, .i1⟩
  | 72 => ⟨S2048x8, .f32⟩
  | 73 => ⟨S_, .f32⟩
  | 74 => ⟨S2048x8, .f32⟩
  | 75 => ⟨S2048x8, .i1⟩
  | 76 => ⟨S_, .f32⟩
  | 77 => ⟨S_, .f32⟩
  | 78 => ⟨S2048x8, .f32⟩
  | 79 => ⟨S2048x8, .f32⟩
  | 80 => ⟨S_, .f32⟩
  | 81 => ⟨S2048, .f32⟩
  | 82 => ⟨S_, .f32⟩
  | 83 => ⟨S2048, .f32⟩
  | 84 => ⟨S2048, .f32⟩
  | 85 => ⟨S2048x1, .f32⟩
  | 86 => ⟨S2048x8, .f32⟩
  | 87 => ⟨S2048x8, .f32⟩
  | 88 => ⟨S2048x8, .f32⟩
  | 89 => ⟨S_, .f32⟩
  | 90 => ⟨S2048, .f32⟩
  | 91 => ⟨S2048x1, .f32⟩
  | 92 => ⟨S2048x8, .f32⟩
  | 93 => ⟨S2048x8, .f32⟩
  | 94 => ⟨S2048x8, .f32⟩
  | 95 => ⟨S2048x8x256, .f32⟩
  | 96 => ⟨S2048x8x256, .f32⟩
  | 97 => ⟨S2048x8x256, .f32⟩
  | 98 => ⟨S_, .f32⟩
  | 99 => ⟨S2048x8x256, .f32⟩
  | 100 => ⟨S2048x8x256, .f32⟩
  | 101 => ⟨S_, .f32⟩
  | 102 => ⟨S2048x8x256, .f32⟩
  | 103 => ⟨S2048x8x256, .f32⟩
  | 104 => ⟨S2048x8x256, .f32⟩
  | 105 => ⟨S2048x8x1, .f32⟩
  | 106 => ⟨S2048x8x256, .f32⟩
  | 107 => ⟨S2048x8x256, .f32⟩
  | 108 => ⟨S2048x1024, .f32⟩
  | 109 => ⟨S1x2048x1024, .f32⟩
  | 110 => ⟨S1x2048x1024, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call0_cst : Ref sig .tc := ⟨.hbm, 78, rfl⟩
abbrev main_call0_v0 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_values : Ref sig .tc := ⟨.hbm, 90, rfl⟩
abbrev main_indices : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v58 : Ref sig .tc := ⟨.hbm, 97, rfl⟩
abbrev main_cst_13 : Ref sig .tc := ⟨.hbm, 98, rfl⟩
abbrev main_v59 : Ref sig .tc := ⟨.hbm, 99, rfl⟩
abbrev main_cst_14 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_call2_v0 : Ref sig .tc := ⟨.hbm, 104, rfl⟩
abbrev main_v63 : Ref sig .tc := ⟨.hbm, 105, rfl⟩
abbrev main_cst_15 : Ref sig .tc := ⟨.hbm, 106, rfl⟩
abbrev main_v64 : Ref sig .tc := ⟨.hbm, 107, rfl⟩
abbrev main_v65 : Ref sig .tc := ⟨.hbm, 108, rfl⟩
abbrev main_cst_16 : Ref sig .tc := ⟨.hbm, 109, rfl⟩
abbrev main_call3_v0 : Ref sig .tc := ⟨.hbm, 110, rfl⟩
abbrev main_call3_v1 : Ref sig .tc := ⟨.hbm, 111, rfl⟩
abbrev main_v66 : Ref sig .tc := ⟨.hbm, 112, rfl⟩
abbrev main_cst_17 : Ref sig .tc := ⟨.hbm, 113, rfl⟩
abbrev main_v67 : Ref sig .tc := ⟨.hbm, 114, rfl⟩
abbrev main_cst_18 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_19 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_20 : Ref sig .tc := ⟨.hbm, 138, rfl⟩
abbrev main_v89 : Ref sig .tc := ⟨.hbm, 139, rfl⟩
abbrev main_v90 : Ref sig .tc := ⟨.hbm, 140, rfl⟩
abbrev main_cst_21 : Ref sig .tc := ⟨.hbm, 141, rfl⟩
abbrev main_v91 : Ref sig .tc := ⟨.hbm, 142, rfl⟩
abbrev main_v92 : Ref sig .tc := ⟨.hbm, 143, rfl⟩
abbrev main_cst_22 : Ref sig .tc := ⟨.hbm, 144, rfl⟩
abbrev main_v93 : Ref sig .tc := ⟨.hbm, 145, rfl⟩
abbrev main_v94 : Ref sig .tc := ⟨.hbm, 146, rfl⟩
abbrev main_cst_23 : Ref sig .tc := ⟨.hbm, 147, rfl⟩
abbrev main_v95 : Ref sig .tc := ⟨.hbm, 148, rfl⟩
abbrev main_v96 : Ref sig .tc := ⟨.hbm, 149, rfl⟩
abbrev main_cst_24 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_c : Ref sig .tc := ⟨.hbm, 161, rfl⟩
abbrev main_v107 : Ref sig .tc := ⟨.hbm, 162, rfl⟩
abbrev main_v108 : Ref sig .tc := ⟨.hbm, 163, rfl⟩
abbrev main_c_25 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_c_26 : Ref sig .tc := ⟨.hbm, 171, rfl⟩
abbrev main_v115 : Ref sig .tc := ⟨.hbm, 172, rfl⟩
abbrev main_v116 : Ref sig .tc := ⟨.hbm, 173, rfl⟩
abbrev main_c_27 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_28 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_c_29 : Ref sig .tc := ⟨.hbm, 199, rfl⟩
abbrev main_v140 : Ref sig .tc := ⟨.hbm, 200, rfl⟩
abbrev main_call4_v0 : Ref sig .tc := ⟨.hbm, 201, rfl⟩
abbrev main_call4_c : Ref sig .tc := ⟨.hbm, 202, rfl⟩
abbrev main_call4_v1 : Ref sig .tc := ⟨.hbm, 203, rfl⟩
abbrev main_call4_v2 : Ref sig .tc := ⟨.hbm, 204, rfl⟩
abbrev main_call4_v3 : Ref sig .tc := ⟨.hbm, 205, rfl⟩
abbrev main_call4_v4 : Ref sig .tc := ⟨.hbm, 206, rfl⟩
abbrev main_call4_c_0 : Ref sig .tc := ⟨.hbm, 207, rfl⟩
abbrev main_call4_v5 : Ref sig .tc := ⟨.hbm, 208, rfl⟩
abbrev main_v141 : Ref sig .tc := ⟨.hbm, 209, rfl⟩
abbrev main_v142 : Ref sig .tc := ⟨.hbm, 210, rfl⟩
abbrev main_cst_30 : Ref sig .tc := ⟨.hbm, 211, rfl⟩
abbrev main_call5_v0 : Ref sig .tc := ⟨.hbm, 212, rfl⟩
abbrev main_call5_v1 : Ref sig .tc := ⟨.hbm, 213, rfl⟩
abbrev main_v143 : Ref sig .tc := ⟨.hbm, 214, rfl⟩
abbrev main_cst_31 : Ref sig .tc := ⟨.hbm, 215, rfl⟩
abbrev main_v144 : Ref sig .tc := ⟨.hbm, 216, rfl⟩
abbrev main_cst_32 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_cst_33 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_cst_34 : Ref sig .tc := ⟨.hbm, 239, rfl⟩
abbrev main_v165 : Ref sig .tc := ⟨.hbm, 240, rfl⟩
abbrev main_v166 : Ref sig .tc := ⟨.hbm, 241, rfl⟩
abbrev main_cst_35 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_cst_36 : Ref sig .tc := ⟨.hbm, 248, rfl⟩
abbrev main_v172 : Ref sig .tc := ⟨.hbm, 249, rfl⟩
abbrev main_v173 : Ref sig .tc := ⟨.hbm, 250, rfl⟩
abbrev main_cst_37 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_cst_38 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_cst_39 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_cst_40 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_cst_41 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_cst_42 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_cst_43 : Ref sig .tc := ⟨.hbm, 292, rfl⟩
abbrev main_v209 : Ref sig .tc := ⟨.hbm, 293, rfl⟩
abbrev main_v210 : Ref sig .tc := ⟨.hbm, 294, rfl⟩
abbrev main_cst_44 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_call6_cst : Ref sig .tc := ⟨.hbm, 301, rfl⟩
abbrev main_call6_v0 : Ref sig .tc := ⟨.hbm, 302, rfl⟩
abbrev main_v216 : Ref sig .tc := ⟨.hbm, 303, rfl⟩
abbrev main_cst_45 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_cst_46 : Ref sig .tc := ⟨.hbm, 308, rfl⟩
abbrev main_v220 : Ref sig .tc := ⟨.hbm, 309, rfl⟩
abbrev main_cst_47 : Ref sig .tc := ⟨.hbm, 310, rfl⟩
abbrev main_v221 : Ref sig .tc := ⟨.hbm, 311, rfl⟩
abbrev main_v222 : Ref sig .tc := ⟨.hbm, 312, rfl⟩
abbrev main_values_48 : Ref sig .tc := ⟨.hbm, 313, rfl⟩
abbrev main_indices_49 : Ref sig .tc := ⟨.hbm, 314, rfl⟩
abbrev main_call7_v0 : Ref sig .tc := ⟨.hbm, 315, rfl⟩
abbrev main_call7_v1 : Ref sig .tc := ⟨.hbm, 316, rfl⟩
abbrev main_call7_v2 : Ref sig .tc := ⟨.hbm, 317, rfl⟩
abbrev main_call7_v3 : Ref sig .tc := ⟨.hbm, 318, rfl⟩
abbrev main_call7_v4 : Ref sig .tc := ⟨.hbm, 319, rfl⟩
abbrev main_v223 : Ref sig .tc := ⟨.hbm, 320, rfl⟩
abbrev main_cst_50 : Ref sig .tc := ⟨.hbm, 321, rfl⟩
abbrev main_v224 : Ref sig .tc := ⟨.hbm, 322, rfl⟩
abbrev main_cst_51 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_call8_v0 : Ref sig .tc := ⟨.hbm, 327, rfl⟩
abbrev main_v228 : Ref sig .tc := ⟨.hbm, 328, rfl⟩
abbrev main_cst_52 : Ref sig .tc := ⟨.hbm, 329, rfl⟩
abbrev main_v229 : Ref sig .tc := ⟨.hbm, 330, rfl⟩
abbrev main_v230 : Ref sig .tc := ⟨.hbm, 331, rfl⟩
abbrev main_cst_53 : Ref sig .tc := ⟨.hbm, 332, rfl⟩
abbrev main_call9_v0 : Ref sig .tc := ⟨.hbm, 333, rfl⟩
abbrev main_call9_v1 : Ref sig .tc := ⟨.hbm, 334, rfl⟩
abbrev main_v231 : Ref sig .tc := ⟨.hbm, 335, rfl⟩
abbrev main_cst_54 : Ref sig .tc := ⟨.hbm, 336, rfl⟩
abbrev main_v232 : Ref sig .tc := ⟨.hbm, 337, rfl⟩
abbrev main_cst_55 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_cst_56 : Ref sig .tc := ⟨.hbm, 345, rfl⟩
abbrev main_v239 : Ref sig .tc := ⟨.hbm, 346, rfl⟩
abbrev main_v240 : Ref sig .tc := ⟨.hbm, 347, rfl⟩
abbrev main_v241 : Ref sig .tc := ⟨.hbm, 348, rfl⟩
abbrev main_v242 : Ref sig .tc := ⟨.hbm, 349, rfl⟩
abbrev main_v243 : Ref sig .tc := ⟨.hbm, 350, rfl⟩
abbrev main_v244 : Ref sig .tc := ⟨.hbm, 351, rfl⟩
abbrev main_call10_v0 : Ref sig .tc := ⟨.hbm, 352, rfl⟩
abbrev main_call10_v1 : Ref sig .tc := ⟨.hbm, 353, rfl⟩
abbrev main_call10_cst : Ref sig .tc := ⟨.hbm, 354, rfl⟩
abbrev main_call10_v2 : Ref sig .tc := ⟨.hbm, 355, rfl⟩
abbrev main_call10_v3 : Ref sig .tc := ⟨.hbm, 356, rfl⟩
abbrev main_call10_cst_0 : Ref sig .tc := ⟨.hbm, 357, rfl⟩
abbrev main_call10_v4 : Ref sig .tc := ⟨.hbm, 358, rfl⟩
abbrev main_call10_v5 : Ref sig .tc := ⟨.hbm, 359, rfl⟩
abbrev main_v245 : Ref sig .tc := ⟨.hbm, 360, rfl⟩
abbrev main_v246 : Ref sig .tc := ⟨.hbm, 361, rfl⟩
abbrev main_v247 : Ref sig .tc := ⟨.hbm, 362, rfl⟩
abbrev main_v248 : Ref sig .tc := ⟨.hbm, 363, rfl⟩
abbrev main_v249 : Ref sig .tc := ⟨.hbm, 364, rfl⟩
abbrev main_v250 : Ref sig .tc := ⟨.hbm, 365, rfl⟩
abbrev main_v251 : Ref sig .tc := ⟨.hbm, 366, rfl⟩

abbrev nD : Nat := 1
abbrev τ : Topo := Topo.v7x

variable {F : FTy → Type} [FloatOps F]
-- ==== Proof.KFrame.Runs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

/-! What the launch of the word-valued kernel needs besides the body: the arrays at the region's entry, the host operations after it, the blocks of the windows. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v90}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host operation after the region writes `main_arg11`: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-- No host operation after the region writes `main_arg12`: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-- No host operation after the region writes `main_arg15`: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1080000 in
/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c),
      (Pipeline.RDat.FramePostR.arr_in h c 15 rfl).trans ((hA c 15).trans (V_main_arg13 m c)),
      (Pipeline.RDat.FramePostR.arr_in h c 16 rfl).trans ((hA c 16).trans (V_main_arg14 m c)),
      ((h c).2 main_arg15 (Finset.mem_sdiff.mpr ⟨Pipeline.mem_restRefs_of main_arg15 (by decide) (by decide), by decide⟩)).trans (V_main_arg15 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x8 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x8 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x1024x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S8x256x1024 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x1024 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S64x2048 .f32 := Memref.whole cc0_scratch0
abbrev scM0_1 : Memref sig .tc .vmem S2048x64 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KFrame.RunA.lean ====
module

public import proofs.«01_k».proof.Proof.KFrame.Runs

/-! The body at the first point of the grid, of the word-valued kernel: it terminates and hands its memrefs back. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's triple IN CASE A (`scf.if` 0 taken: points 0): on whole staging memrefs — the inputs' at their contents,
    the FORGOTTEN outputs' (17) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .f32) (harg3 : arg3.IsWhole) (arg4 : Memref sig .tc .vmem S1024x8 .f32) (harg4 : arg4.IsWhole) (arg5 : Memref sig .tc .vmem S1x8 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S256x64 .f32) (harg9 : arg9.IsWhole) (arg10 : Memref sig .tc .vmem S256x64 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x8 .f32) (harg14 : arg14.IsWhole) (arg15 : Memref sig .tc .vmem S1x8 .f32) (harg15 : arg15.IsWhole) (arg16 : Memref sig .tc .vmem S8x1024x256 .f32) (harg16 : arg16.IsWhole) (arg17 : Memref sig .tc .vmem S8x256x1024 .f32) (harg17 : arg17.IsWhole) (arg18 : Memref sig .tc .vmem S256x1024 .f32) (harg18 : arg18.IsWhole) (arg19 : Memref sig .tc .vmem S64x2048 .f32) (harg19 : arg19.IsWhole) (arg20 : Memref sig .tc .vmem S2048x64 .f32) (harg20 : arg20.IsWhole) (hc0 : cond0_0 i)
    (x0 : Vec F S256x1024 .f32) (x1 : Vec F S256x1 .f32) (x2 : Vec F S256x1024 .f32) (x3 : Vec F S1024x8 .f32) (x4 : Vec F S1x8 .f32) (x5 : Vec F S1024x512 .f32) (x6 : Vec F S1024x512 .f32) (x7 : Vec F S1024x512 .f32) (x8 : Vec F S256x64 .f32) (x9 : Vec F S256x64 .f32) (x10 : Vec F S512x1024 .f32) (x11 : Vec F S1x1024 .f32) (x12 : Vec F S1x1024 .f32) (x13 : Vec F S1024x8 .f32) (x14 : Vec F S1x8 .f32) (x15 : Vec F S8x1024x256 .f32) (x16 : Vec F S8x256x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [HS0]
    · iexists _, _; isplitr; swap; · iexact HS0
      ipureintro; rfl
    iexists _, _; isplitr; swap; · iexact HS1
    ipureintro; rfl

end Cert.Kernel.Gen

end
-- ==== Proof.KFrame.RunB.lean ====
module

public import proofs.«01_k».proof.Proof.KFrame.RunA

/-! The body at any later point of the grid, of the word-valued kernel: it terminates and hands its memrefs back. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's triple IN CASE B (`scf.if` 0 not taken: points 1, 2, … 7: 7 of 8): on whole staging memrefs — the inputs' at their contents,
    the FORGOTTEN outputs' (17) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .f32) (harg3 : arg3.IsWhole) (arg4 : Memref sig .tc .vmem S1024x8 .f32) (harg4 : arg4.IsWhole) (arg5 : Memref sig .tc .vmem S1x8 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S256x64 .f32) (harg9 : arg9.IsWhole) (arg10 : Memref sig .tc .vmem S256x64 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x8 .f32) (harg14 : arg14.IsWhole) (arg15 : Memref sig .tc .vmem S1x8 .f32) (harg15 : arg15.IsWhole) (arg16 : Memref sig .tc .vmem S8x1024x256 .f32) (harg16 : arg16.IsWhole) (arg17 : Memref sig .tc .vmem S8x256x1024 .f32) (harg17 : arg17.IsWhole) (arg18 : Memref sig .tc .vmem S256x1024 .f32) (harg18 : arg18.IsWhole) (arg19 : Memref sig .tc .vmem S64x2048 .f32) (harg19 : arg19.IsWhole) (arg20 : Memref sig .tc .vmem S2048x64 .f32) (harg20 : arg20.IsWhole) (hc0 : ¬cond0_0 i)
    (x0 : Vec F S256x1024 .f32) (x1 : Vec F S256x1 .f32) (x2 : Vec F S256x1024 .f32) (x3 : Vec F S1024x8 .f32) (x4 : Vec F S1x8 .f32) (x5 : Vec F S1024x512 .f32) (x6 : Vec F S1024x512 .f32) (x7 : Vec F S1024x512 .f32) (x8 : Vec F S256x64 .f32) (x9 : Vec F S256x64 .f32) (x10 : Vec F S512x1024 .f32) (x11 : Vec F S1x1024 .f32) (x12 : Vec F S1x1024 .f32) (x13 : Vec F S1024x8 .f32) (x14 : Vec F S1x8 .f32) (x15 : Vec F S8x1024x256 .f32) (x16 : Vec F S8x256x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [HS0]
    · iexists _, _; isplitr; swap; · iexact HS0
      ipureintro; rfl
    iexists _, _; isplitr; swap; · iexact HS1
    ipureintro; rfl

end Cert.Kernel.Gen

end
-- ==== Proof.KFrame.Frame.lean ====
module

public import proofs.«01_k».proof.Proof.KFrame.RunB
public import Idealize.ShloMosaic.Lib.Claim

/-! The word-valued kernel terminates, leaves its arguments unchanged and its counters at zero. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (17): nothing reads what the kernel leaves in them, so nothing
    of it is named (Lib/Pipeline/Dat.lean `Dat.toRForget`). -/
def forgets0 : Fin 18 → Bool := fun w => w.val == 17

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨_ + 18, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ d, owns (c : Thread nD τ) (ms0_17 t) fullShare d))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, PhiA0_eq]
  have hN : t.val < 8 := lt_of_lt_of_eq t.isLt (show cfg0.N = 8 from N_0)
  by_cases h0 : t.val % 8 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((kernelRun0_A c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [HS0]; · iexact HS0
    isplitl [HS1]; · iexact HS1
    iintro ⟨H0, H1, H2, H3, H4, H5, H6, H7, H8, H9, H10, H11, H12, H13, H14, H15, H16, H17, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [HS0]; · iexact HS0
    isplitl [HS1]; · iexact HS1
    iintro ⟨H0, H1, H2, H3, H4, H5, H6, H7, H8, H9, H10, H11, H12, H13, H14, H15, H16, H17, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 17) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Kernel.Gen

end
-- ==== Proof.Spec.Scalars.lean ====
module

public import Idealize.ShloMosaic.Lib.Pointwise
public import Idealize.ShloMosaic.Lib.IdealHost

/-! Facts about the extended reals that the comparison uses: which values are real, how a nonnegative real factor passes
through a sum, and what the constants of the two programs denote. -/

@[expose] public section

noncomputable section

namespace Cert.Spec

open Idealize.ShloMosaic
open scoped BigOperators

/-- The extended real `x` is a real number. -/
def IsReal (x : EReal) : Prop := ∃ r : ℝ, x = (r : EReal)

/-- The extended real `x` is a real number that is not negative. -/
def IsNonneg (x : EReal) : Prop := ∃ r : ℝ, 0 ≤ r ∧ x = (r : EReal)

/-- The extended real `x` is a positive real number. -/
def IsPos (x : EReal) : Prop := ∃ r : ℝ, 0 < r ∧ x = (r : EReal)

/-- What is positive is nonnegative, -/
theorem IsPos.nonneg {x : EReal} (h : IsPos x) : IsNonneg x := let ⟨r, h0, e⟩ := h; ⟨r, h0.le, e⟩
/-- what is nonnegative is real, -/
theorem IsNonneg.real {x : EReal} (h : IsNonneg x) : IsReal x := let ⟨r, _, e⟩ := h; ⟨r, e⟩
/-- and what is positive is. -/
theorem IsPos.real {x : EReal} (h : IsPos x) : IsReal x := h.nonneg.real

/-- An extended real is real as soon as it is neither infinity. -/
theorem isReal_of_ne {x : EReal} (h1 : x ≠ ⊤) (h2 : x ≠ ⊥) : IsReal x := ⟨x.toReal, (EReal.coe_toReal h1 h2).symm⟩

/-- A real is not the top, -/
theorem IsReal.ne_top {x : EReal} (h : IsReal x) : x ≠ ⊤ := by obtain ⟨r, rfl⟩ := h; exact EReal.coe_ne_top r
/-- and not the bottom. -/
theorem IsReal.ne_bot {x : EReal} (h : IsReal x) : x ≠ ⊥ := by obtain ⟨r, rfl⟩ := h; exact EReal.coe_ne_bot r

/-- The embedding of a real is real, -/
theorem isReal_coe (r : ℝ) : IsReal (r : EReal) := ⟨r, rfl⟩
/-- so 0 is, -/
theorem isReal_zero : IsReal 0 := ⟨0, by simp⟩
/-- and 1. -/
theorem isReal_one : IsReal 1 := ⟨1, by simp⟩
/-- 0 is nonnegative, -/
theorem isNonneg_zero : IsNonneg 0 := ⟨0, le_refl _, by simp⟩
/-- and 1. -/
theorem isNonneg_one : IsNonneg 1 := ⟨1, by norm_num, by simp⟩

/-- Reals are closed under sums, -/
theorem IsReal.add {x y : EReal} (hx : IsReal x) (hy : IsReal y) : IsReal (x + y) := by
  obtain ⟨a, rfl⟩ := hx; obtain ⟨b, rfl⟩ := hy; exact ⟨a + b, by push_cast; rfl⟩
/-- differences, -/
theorem IsReal.sub {x y : EReal} (hx : IsReal x) (hy : IsReal y) : IsReal (x - y) := by
  obtain ⟨a, rfl⟩ := hx; obtain ⟨b, rfl⟩ := hy; exact ⟨a - b, by push_cast; rfl⟩
/-- negation -/
theorem IsReal.neg {x : EReal} (hx : IsReal x) : IsReal (-x) := by
  obtain ⟨a, rfl⟩ := hx; exact ⟨-a, by push_cast; rfl⟩
/-- and products; -/
theorem IsReal.mul {x y : EReal} (hx : IsReal x) (hy : IsReal y) : IsReal (x * y) := by
  obtain ⟨a, rfl⟩ := hx; obtain ⟨b, rfl⟩ := hy; exact ⟨a * b, by push_cast; rfl⟩
/-- nonnegative reals under products -/
theorem IsNonneg.mul {x y : EReal} (hx : IsNonneg x) (hy : IsNonneg y) : IsNonneg (x * y) := by
  obtain ⟨a, ha, rfl⟩ := hx; obtain ⟨b, hb, rfl⟩ := hy; exact ⟨a * b, mul_nonneg ha hb, by push_cast; rfl⟩
/-- and sums; -/
theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, by push_cast; rfl⟩
/-- reals under maxima. -/
theorem IsReal.max {x y : EReal} (hx : IsReal x) (hy : IsReal y) : IsReal (max x y) := by
  rcases max_choice x y with h | h <;> rw [h] <;> assumption

/-- A finite sum of reals is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of nonnegative reals is a nonnegative real. -/
theorem isNonneg_sum {ι : Type} (s : Finset ι) (f : ι → EReal) (h : ∀ i ∈ s, IsNonneg (f i)) : IsNonneg (∑ i ∈ s, f i) := by
  classical
  induction s using Finset.induction_on with
  | empty => simpa using isNonneg_zero
  | insert a s ha ih =>
    rw [Finset.sum_insert ha]
    exact (h a (Finset.mem_insert_self a s)).add (ih fun i hi => h i (Finset.mem_insert_of_mem hi))

/-- A positive and a nonnegative real add up to a positive one. -/
theorem IsPos.add_nonneg {x y : EReal} (hx : IsPos x) (hy : IsNonneg y) : IsPos (x + y) := by
  obtain ⟨a, ha, rfl⟩ := hx; obtain ⟨b, hb, rfl⟩ := hy; exact ⟨a + b, by linarith, by push_cast; rfl⟩

/-- A finite sum of nonnegative reals one of which is positive is positive. -/
theorem isPos_sum {ι : Type} (s : Finset ι) (f : ι → EReal) (h : ∀ i ∈ s, IsNonneg (f i)) (a : ι) (ha : a ∈ s)
    (hp : IsPos (f a)) : IsPos (∑ i ∈ s, f i) := by
  classical
  rw [← Finset.add_sum_erase s f ha]
  exact hp.add_nonneg (isNonneg_sum _ f fun i hi => h i (Finset.mem_of_mem_erase hi))

/-- A nonnegative real factor passes through a finite sum of extended reals. -/
theorem IsNonneg.mul_sum {ι : Type} {c : EReal} (hc : IsNonneg c) (s : Finset ι) (f : ι → EReal) :
    c * ∑ i ∈ s, f i = ∑ i ∈ s, c * f i := by
  classical
  obtain ⟨r, hr, rfl⟩ := hc
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-- The same with the factor on the right. -/
theorem IsNonneg.sum_mul {ι : Type} {c : EReal} (hc : IsNonneg c) (s : Finset ι) (f : ι → EReal) :
    (∑ i ∈ s, f i) * c = ∑ i ∈ s, f i * c := by
  rw [mul_comm, hc.mul_sum]; exact Finset.sum_congr rfl fun i _ => mul_comm _ _

/-- A nonnegative real factor distributes over a sum of two. -/
theorem IsNonneg.mul_add {c : EReal} (hc : IsNonneg c) (x y : EReal) : c * (x + y) = c * x + c * y := by
  obtain ⟨r, hr, rfl⟩ := hc
  exact EReal.left_distrib_of_nonneg_of_ne_top (EReal.coe_nonneg.mpr hr) (EReal.coe_ne_top r) _ _

/-- Division by a positive real multiplies by its inverse. -/
theorem div_coe_pos (x : EReal) {d : ℝ} (hd : 0 < d) : Ideal.div x (d : EReal) = x * ((d⁻¹ : ℝ) : EReal) := by
  have h0 : (d : EReal) ≠ 0 := by
    intro h; exact hd.ne' (EReal.coe_eq_zero.mp h)
  unfold Ideal.div
  rw [if_neg h0, EReal.coe_inv]

/-- Quotients by a positive real: of a nonnegative real, -/
theorem IsNonneg.div {x d : EReal} (hx : IsNonneg x) (hd : IsPos d) : IsNonneg (Ideal.div x d) := by
  obtain ⟨r, hr, rfl⟩ := hd
  rw [div_coe_pos _ hr]
  exact hx.mul ⟨_, inv_nonneg.mpr hr.le, rfl⟩

/-- of a real, -/
theorem IsReal.div {x d : EReal} (hx : IsReal x) (hd : IsPos d) : IsReal (Ideal.div x d) := by
  obtain ⟨r, hr, rfl⟩ := hd
  rw [div_coe_pos _ hr]
  exact hx.mul (isReal_coe _)

/-- of a positive one. -/
theorem IsPos.div {x d : EReal} (hx : IsPos x) (hd : IsPos d) : IsPos (Ideal.div x d) := by
  obtain ⟨r, hr, rfl⟩ := hd
  obtain ⟨a, ha, rfl⟩ := hx
  rw [div_coe_pos _ hr]
  exact ⟨a * r⁻¹, mul_pos ha (inv_pos.mpr hr), by push_cast; rfl⟩

/-- Anything divided by `⊤` is zero. -/
theorem div_top (x : EReal) : Ideal.div x ⊤ = 0 := by
  unfold Ideal.div
  rw [if_neg (by simp), EReal.inv_top, mul_zero]

/-- The exponential of a real is the real one, -/
theorem exp_coe (r : ℝ) : Ideal.exp (r : EReal) = ((Real.exp r : ℝ) : EReal) := rfl
/-- and 0 at the bottom. -/
theorem exp_bot : Ideal.exp ⊥ = 0 := rfl

/-- It is positive at a real. -/
theorem isPos_exp {x : EReal} (hx : IsReal x) : IsPos (Ideal.exp x) := by
  obtain ⟨r, rfl⟩ := hx; exact ⟨_, Real.exp_pos r, exp_coe r⟩

/-- `exp` of anything but `⊤` is a nonnegative real. -/
theorem isNonneg_exp {x : EReal} (hx : x ≠ ⊤) : IsNonneg (Ideal.exp x) := by
  by_cases h : x = ⊥
  · subst h; exact isNonneg_zero
  · exact (isPos_exp (isReal_of_ne hx h)).nonneg

/-- The root of a nonnegative real is the real one, -/
theorem sqrt_coe {r : ℝ} (h : 0 ≤ r) : Ideal.sqrt (r : EReal) = ((Real.sqrt r : ℝ) : EReal) := by
  show (if r < 0 then ⊥ else ((Real.sqrt r : ℝ) : EReal)) = _
  rw [if_neg (not_lt.mpr h)]
/-- and the top at the top. -/
theorem sqrt_top : Ideal.sqrt ⊤ = ⊤ := rfl

/-- The root of a positive real is positive. -/
theorem isPos_sqrt {x : EReal} (h : IsPos x) : IsPos (Ideal.sqrt x) := by
  obtain ⟨r, hr, rfl⟩ := h
  exact ⟨_, Real.sqrt_pos.mpr hr, sqrt_coe hr.le⟩

/-- Cosines of reals are real, -/
theorem isReal_cos {x : EReal} (h : IsReal x) : IsReal (Ideal.cos x) := by obtain ⟨r, rfl⟩ := h; exact ⟨_, rfl⟩
/-- and sines. -/
theorem isReal_sin {x : EReal} (h : IsReal x) : IsReal (Ideal.sin x) := by obtain ⟨r, rfl⟩ := h; exact ⟨_, rfl⟩

/-- A square is not negative. -/
theorem mul_self_nonneg' (x : EReal) : 0 ≤ x * x := by
  rcases le_total 0 x with h | h
  · exact mul_nonneg h h
  · rw [← neg_mul_neg]
    have : 0 ≤ -x := by simpa using EReal.neg_le_neg_iff.mpr h
    exact mul_nonneg this this

/-- A square is `⊤` only of an infinity, and an infinity's square is `⊤`. -/
theorem mul_self_eq_top {x : EReal} (h : ¬ IsReal x) : x * x = ⊤ := by
  by_cases h1 : x = ⊤
  · subst h1; rfl
  · by_cases h2 : x = ⊥
    · subst h2; rfl
    · exact absurd (isReal_of_ne h1 h2) h

/-- A sum of squares with an infinite entry is `⊤`. -/
theorem sum_sq_eq_top {ι : Type} [Fintype ι] (f : ι → EReal) (a : ι) (h : ¬ IsReal (f a)) : ∑ i, f i * f i = ⊤ := by
  refine top_le_iff.mp ?_
  rw [← mul_self_eq_top h]
  exact Finset.single_le_sum (f := fun i => f i * f i) (fun i _ => mul_self_nonneg' (f i)) (Finset.mem_univ a)

/-- The fold of `max` from `⊥` is the supremum: it bounds every entry. -/
theorem le_fold_max {ι : Type} [Fintype ι] (f : ι → EReal) (i : ι) : f i ≤ Finset.univ.fold max ⊥ f :=
  Finset.le_fold_max _ |>.mpr (Or.inr ⟨i, Finset.mem_univ i, le_refl _⟩)

/-- And over a nonempty index it is attained. -/
theorem exists_fold_max {ι : Type} [Fintype ι] [Nonempty ι] (f : ι → EReal) : ∃ i, Finset.univ.fold max ⊥ f = f i := by
  obtain ⟨i, _, hi⟩ := Finset.exists_max_image (Finset.univ : Finset ι) f ⟨Classical.arbitrary ι, Finset.mem_univ _⟩
  refine ⟨i, le_antisymm ?_ (le_fold_max f i)⟩
  exact (Finset.fold_max_le _).mpr ⟨bot_le, fun j _ => hi j (Finset.mem_univ j)⟩

/-- The constants: minus infinity. -/
theorem ofBits_neg_inf : Ideal.ofBits .f32 0xFF800000#32 = ⊥ := by
  simp [Ideal.ofBits, Ideal.ieee]
/-- The constants: plus infinity. -/
theorem ofBits_inf : Ideal.ofBits .f32 0x7F800000#32 = ⊤ := by
  simp [Ideal.ofBits, Ideal.ieee]
/-- The constants: one eighth. -/
theorem ofBits_eighth : Ideal.ofBits .f32 0x3E000000#32 = (((1 : ℝ) / 8 : ℝ) : EReal) := by
  simp [Ideal.ofBits, Ideal.ieee, -EReal.coe_mul]; norm_num
/-- The constants: sixty-four. -/
theorem ofBits_64 : Ideal.ofBits .f32 0x42800000#32 = ((64 : ℝ) : EReal) := by
  simp [Ideal.ofBits, Ideal.ieee, -EReal.coe_mul]; norm_num
/-- The constants: the norm's floor is a positive real. -/
theorem isPos_norm_floor : IsPos (Ideal.ofBits .f32 0x2B8CBCCC#32) := by
  refine ⟨_, ?_, by simp [Ideal.ofBits, Ideal.ieee, -EReal.coe_mul]; rfl⟩; norm_num
/-- The constants: the variance's floor is a positive real. -/
theorem isPos_var_floor : IsPos (Ideal.ofBits .f32 0x3727C5AC#32) := by
  refine ⟨_, ?_, by simp [Ideal.ofBits, Ideal.ieee, -EReal.coe_mul]; rfl⟩; norm_num
/-- The constants: the row length is a positive real. -/
theorem isPos_row : IsPos (Ideal.ofBits .f32 0x44800000#32) := by
  refine ⟨_, ?_, by simp [Ideal.ofBits, Ideal.ieee, -EReal.coe_mul]; rfl⟩; norm_num
/-- The constants: the base of the rotary frequencies is a positive real. -/
theorem isPos_base : IsPos (Ideal.ofBits .f32 0x461C4000#32) := by
  refine ⟨_, ?_, by simp [Ideal.ofBits, Ideal.ieee, -EReal.coe_mul]; rfl⟩; norm_num
/-- The constants: two. -/
theorem isPos_two : IsPos (Ideal.ofBits .f32 0x40000000#32) := by
  refine ⟨_, ?_, by simp [Ideal.ofBits, Ideal.ieee, -EReal.coe_mul]; rfl⟩; norm_num
/-- The constants: what the second selection puts at the first winner lies below minus two thousand. -/
theorem low_lt : Ideal.ofBits .f32 0xF149F2CA#32 < ((-2000 : ℝ) : EReal) := by
  have : Ideal.ofBits .f32 0xF149F2CA#32 = ((-(2^23 + 4846282 : ℝ) * 2 ^ (76:ℤ) : ℝ) : EReal) := by
    simp [Ideal.ofBits, Ideal.ieee, -EReal.coe_mul, -EReal.coe_neg]; norm_num
  rw [this, EReal.coe_lt_coe_iff]; norm_num

end Cert.Spec
end
-- ==== Proof.Spec.Gate.lean ====
module

public import proofs.«01_k».proof.Proof.Spec.Scalars
public import Idealize.ShloMosaic.Lib.SortPrefix
public import Idealize.ShloMosaic.Lib.SortFacts

/-! The gate that both programs have: eight scores of a token become eight weights. The experts with a positive score are
chosen; where there are none, the two of the greatest scores are; the weights are the softmax over the chosen ones.

The kernel finds the two greatest by minima over positions, the reference by a sort; both are the first position of the
greatest score, and the first position of the greatest score among the rest. -/

@[expose] public section

noncomputable section

namespace Cert.Spec

open Idealize.ShloMosaic
open scoped BigOperators Classical

/-- `a` is the first position at which `z` is greatest. -/
structure IsFirst (z : Fin 8 → EReal) (a : Fin 8) : Prop where
  le : ∀ x, z x ≤ z a
  lt : ∀ x, x < a → z x < z a

/-- Eight extended reals have a first greatest one, -/
theorem exists_first (z : Fin 8 → EReal) : ∃ a, IsFirst z a := by
  obtain ⟨m, _, hm⟩ := Finset.exists_max_image (Finset.univ : Finset (Fin 8)) z ⟨0, Finset.mem_univ _⟩
  have hne : (Finset.univ.filter fun a => z a = z m).Nonempty := ⟨m, by simp⟩
  refine ⟨(Finset.univ.filter fun a => z a = z m).min' hne, ?_, ?_⟩
  · intro x
    have := (Finset.mem_filter.mp (Finset.min'_mem _ hne)).2
    rw [this]; exact hm x (Finset.mem_univ x)
  · intro x hx
    have h1 := (Finset.mem_filter.mp (Finset.min'_mem _ hne)).2
    rw [h1]
    refine lt_of_le_of_ne (hm x (Finset.mem_univ x)) fun h => ?_
    exact absurd (Finset.min'_le _ x (by simp [h])) (not_le.mpr hx)

/-- The first position of the greatest score. -/
def first (z : Fin 8 → EReal) : Fin 8 := (exists_first z).choose
/-- which `first` names. -/
theorem first_spec (z : Fin 8 → EReal) : IsFirst z (first z) := (exists_first z).choose_spec

/-- The scores with the first winner's replaced by a value below all. -/
def rest (z : Fin 8 → EReal) : Fin 8 → EReal := fun x => if x = first z then Ideal.ofBits .f32 0xF149F2CA#32 else z x

/-- The position of the second greatest score. -/
def second (z : Fin 8 → EReal) : Fin 8 := first (rest z)

/-- It is their maximum. -/
theorem IsFirst.fold {z : Fin 8 → EReal} {a : Fin 8} (h : IsFirst z a) : Finset.univ.fold max ⊥ z = z a :=
  le_antisymm ((Finset.fold_max_le _).mpr ⟨bot_le, fun x _ => h.le x⟩) (le_fold_max z a)

/-- The scores are above the value that replaces the first winner's. -/
def Above (z : Fin 8 → EReal) : Prop := ∀ x, Ideal.ofBits .f32 0xF149F2CA#32 < z x

/-- The second is another expert than the first; -/
theorem second_ne {z : Fin 8 → EReal} (h : Above z) : second z ≠ first z := by
  intro e
  obtain ⟨x, hx⟩ : ∃ x, x ≠ first z := exists_ne (first z)
  have := (first_spec (rest z)).le x
  have h2 : rest z (first (rest z)) = Ideal.ofBits .f32 0xF149F2CA#32 := if_pos e
  rw [h2, rest, if_neg hx] at this
  exact absurd (h x) (not_lt.mpr this)

/-- no other is greater than it, -/
theorem second_le {z : Fin 8 → EReal} (h : Above z) (x : Fin 8) (hx : x ≠ first z) : z x ≤ z (second z) := by
  have := (first_spec (rest z)).le x
  have e : rest z (first (rest z)) = z (second z) := if_neg (second_ne h)
  rwa [e, rest, if_neg hx] at this

/-- and those before it are less. -/
theorem second_lt {z : Fin 8 → EReal} (h : Above z) (x : Fin 8) (hx : x ≠ first z) (hl : x < second z) : z x < z (second z) := by
  have := (first_spec (rest z)).lt x hl
  have e : rest z (first (rest z)) = z (second z) := if_neg (second_ne h)
  rwa [e, rest, if_neg hx] at this

/-! ### The minimum over positions -/

/-- The least of the positions at which `p` holds, as a 32-bit word. -/
theorem fold_minsi : ∀ (p : Fin 8 → Bool) (a : Fin 8), p a = true → (∀ b, b < a → p b = false) →
    Finset.univ.fold IntOp.minsi 2147483647#32 (fun x : Fin 8 => if p x = true then BitVec.ofNat 32 x.val else 8#32)
      = BitVec.ofNat 32 a.val := by decide +kernel

/-- The kernel's position of the greatest score is its first position. -/
theorem position_first (z : Fin 8 → EReal) [∀ x, Decidable (z x = Finset.univ.fold max ⊥ z)] :
    Finset.univ.fold IntOp.minsi 2147483647#32
      (fun x : Fin 8 => if z x = Finset.univ.fold max ⊥ z then BitVec.ofNat 32 x.val else 8#32) = BitVec.ofNat 32 (first z).val := by
  have h := first_spec z
  rw [← fold_minsi (fun x => decide (z x = z (first z))) (first z) (by simp) fun b hb => by simpa using (h.lt b hb).ne]
  simp only [h.fold, decide_eq_true_eq]

/-- Two positions compared as words. -/
theorem cmpi_position : ∀ e a : Fin 8, IntOp.cmpi .eq (BitVec.ofNat 32 e.val) (BitVec.ofNat 32 a.val) = BitVec.ofBool (decide (e = a)) := by
  decide +kernel

/-! ### The sort -/

/-- On positions listed in order a stable sort asks an order only of pairs in which the second stands first. -/
theorem stableSort_congr {n : Nat} (A B : Fin n → Fin n → Bool) (h : ∀ a b, a < b → A b a = B b a) :
    ∀ l : List (Fin n), l.Pairwise (· < ·) → stableSort A l = stableSort B l
  | [], _ => rfl
  | a :: l, hl => by
    obtain ⟨h1, h2⟩ := List.pairwise_cons.mp hl
    show insertBefore A a (stableSort A l) = insertBefore B a (stableSort B l)
    rw [stableSort_congr A B h l h2]
    refine insertBefore_congr _ _ _ _ fun b hb => h a b (h1 b ?_)
    exact (perm_stableSort B l).mem_iff.mp hb

/-- Two orders that agree on those pairs sort the positions alike. -/
theorem sortedFrom_congr {n : Nat} (A B : Fin n → Fin n → Bool) (h : ∀ a b, a < b → A b a = B b a) (k : Fin n) :
    sortedFrom A k = sortedFrom B k := by
  have e : sortPositions n A = sortPositions n B := stableSort_congr A B h _ (List.pairwise_lt_finRange n)
  have aux : ∀ (l l' : List (Fin n)) (_ : l = l') (i : Nat) (h1 : i < l.length) (h2 : i < l'.length), l.get ⟨i, h1⟩ = l'.get ⟨i, h2⟩ := by
    rintro l _ rfl i h1 h2; rfl
  exact aux _ _ e _ _ _

/-- "The one's score is greater", as the reference's sort asks it. -/
def gtZ (z : Fin 8 → EReal) (k k' : Fin 8) : Bool := Ideal.cmpTotal .gt (z k) (z k') == 1#1

/-- The comparison as a decision. -/
theorem gtZ_eq (z : Fin 8 → EReal) (k k' : Fin 8) : gtZ z k k' = decide (z k' < z k) := by
  simp only [gtZ, Ideal.cmpTotal, Ideal.cmp, CmpDirection.ordered]
  by_cases h : z k' < z k <;> simp [h]

/-- The sort's first two positions are the first position of the greatest score and that of the second greatest. -/
theorem sorted_two {z : Fin 8 → EReal} (h : Above z) (i : Fin 2) :
    sortedFrom (gtZ z) (i.castLE (by omega)) = (![first z, second z] : Fin 2 → Fin 8) i := by
  have hB := StrictTotalBefore.of_key_then_position (n := 8) (fun a b : EReal => decide (b < a)) z (by simp)
    (by intro a b c; simp only [decide_eq_true_eq]; intro h1 h2; exact lt_trans h2 h1)
    (by intro a b; simp only [decide_eq_true_eq]; rcases lt_trichotomy a b with h | h | h <;> simp [h])
  rw [sortedFrom_congr (gtZ z) (fun k k' => decide (z k' < z k) || (decide (z k = z k') && decide (k < k'))) fun a b hab => by
    rw [gtZ_eq]; simp [not_lt.mpr hab.le]]
  refine hB.sortedFrom_eq_of_prefix (by omega) _ ?_ ?_ ?_ i
  · intro x y hxy
    have := second_ne h
    fin_cases x <;> fin_cases y <;> simp_all
  · intro x y hxy
    fin_cases x <;> fin_cases y <;> simp_all
    have h1 := (first_spec z)
    refine ⟨h1.le _, fun e => ?_⟩
    by_contra hlt
    exact absurd (h1.lt _ (not_le.mp hlt)) (by rw [e]; exact lt_irrefl _)
  · intro x p hp
    have hp0 : first z ≠ p := hp 0
    have hp1 : second z ≠ p := hp 1
    have h1 := first_spec z
    have key : ∀ q : Fin 8, z p ≤ z q → (p < q → z p < z q) →
        (decide (z q < z p) || (decide (z p = z q) && decide (p < q))) = false := by
      intro q hle hlt
      have e1 : ¬ z q < z p := not_lt.mpr hle
      have e2 : ¬ (z p = z q ∧ p < q) := fun e => absurd (hlt e.2) (by rw [e.1]; exact lt_irrefl _)
      simp only [Bool.or_eq_false_iff, Bool.and_eq_false_iff, decide_eq_false_iff_not]
      exact ⟨e1, not_and_or.mp e2⟩
    fin_cases x
    · exact key (first z) (h1.le p) (h1.lt p)
    · exact key (second z) (second_le h p hp0.symm) (second_lt h p hp0.symm)

/-! ### The mask and the weights -/

/-- One if `p`, else zero. -/
def bit (p : Prop) : EReal := if p then 1 else 0

/-- An indicator is nonnegative. -/
theorem isNonneg_bit (p : Prop) : IsNonneg (bit p) := by
  unfold bit; split
  · exact isNonneg_one
  · exact isNonneg_zero

/-- The chosen experts: those of a positive score, or the two of the greatest scores where there is none. -/
def chosen (z : Fin 8 → EReal) (e : Fin 8) : Prop :=
  if z (first z) ≤ 0 then e = first z ∨ e = second z else 0 < z e

/-- What the softmax is taken of: the scores of the chosen experts, those below zero as zero. -/
def gated (z : Fin 8 → EReal) (e : Fin 8) : EReal := if chosen z e then max (z e) 0 else ⊥

/-- The weights. -/
def weight (z : Fin 8 → EReal) (e : Fin 8) : EReal :=
  Ideal.div (Ideal.exp (gated z e - Finset.univ.fold max ⊥ (gated z)))
    (∑ x, Ideal.exp (gated z x - Finset.univ.fold max ⊥ (gated z))) * bit (chosen z e)

/-- Some expert is chosen. -/
theorem exists_chosen (z : Fin 8 → EReal) : ∃ e, chosen z e := by
  by_cases h : z (first z) ≤ 0
  · exact ⟨first z, by rw [chosen, if_pos h]; exact Or.inl rfl⟩
  · exact ⟨first z, by rw [chosen, if_neg h]; exact not_le.mp h⟩

/-- The weights of real scores are nonnegative reals. -/
theorem isNonneg_weight {z : Fin 8 → EReal} (hz : ∀ e, IsReal (z e)) (e : Fin 8) : IsNonneg (weight z e) := by
  obtain ⟨a, ha⟩ := exists_chosen z
  have hreal : ∀ x, chosen z x → IsReal (gated z x) := fun x hx => by rw [gated, if_pos hx]; exact (hz x).max isReal_zero
  have hM : IsReal (Finset.univ.fold max ⊥ (gated z)) := by
    obtain ⟨m, hm⟩ := exists_fold_max (gated z)
    rw [hm]
    refine isReal_of_ne ?_ ?_
    · unfold gated; split
      · exact ((hz m).max isReal_zero).ne_top
      · simp
    · intro hb
      have := le_fold_max (gated z) a
      rw [hm, hb, le_bot_iff] at this
      exact (hreal a ha).ne_bot this
  have hnn : ∀ x, IsNonneg (Ideal.exp (gated z x - Finset.univ.fold max ⊥ (gated z))) := by
    intro x
    by_cases hx : chosen z x
    · exact (isPos_exp ((hreal x hx).sub hM)).nonneg
    · rw [gated, if_neg hx, EReal.bot_sub]; exact isNonneg_zero
  exact ((hnn e).div (isPos_sum _ _ (fun x _ => hnn x) a (Finset.mem_univ a) (isPos_exp ((hreal a ha).sub hM)))).mul (isNonneg_bit _)

end Cert.Spec
end
-- ==== Proof.Spec.Attention.lean ====
module

public import proofs.«01_k».proof.Proof.Spec.Scalars

/-! One row of the attention. The reference takes the softmax of all the scores and then the weighted sum of the values;
the kernel takes the first half of the row, then the second, rescaling what the first half gave. Both are the same
weighted sum, where no score is `⊤` and one of the first half is real. The values may be any extended reals, and at a
masked score they do not matter. -/

@[expose] public section

noncomputable section

namespace Cert.Spec

open Idealize.ShloMosaic
open scoped BigOperators

/-- The softmax of the scores `s`, and then the sum of the values `v` weighted with it. -/
def softRow (s v : Fin 2048 → EReal) : EReal :=
  ∑ j, Ideal.div (Ideal.exp (s j - Finset.univ.fold max ⊥ s)) (∑ x, Ideal.exp (s x - Finset.univ.fold max ⊥ s)) * v j

/-- A position of the first half. -/
def lo (x : Fin 1024) : Fin 2048 := ⟨x.val, by omega⟩
/-- A position of the second half. -/
def hi (x : Fin 1024) : Fin 2048 := ⟨1024 + x.val, by omega⟩

/-- A sum over a row is the sum over its halves. -/
theorem sum_halves (f : Fin 2048 → EReal) : ∑ j, f j = ∑ x, f (lo x) + ∑ x, f (hi x) := by
  exact Fin.sum_univ_add (a := 1024) (b := 1024) f

/-- A position lies in one of the halves. -/
theorem lo_or_hi (j : Fin 2048) : (∃ x, j = lo x) ∨ ∃ x, j = hi x := by
  by_cases h : j.val < 1024
  · exact Or.inl ⟨⟨j.val, h⟩, rfl⟩
  · exact Or.inr ⟨⟨j.val - 1024, by omega⟩, Fin.ext (by show j.val = 1024 + (j.val - 1024); omega)⟩

/-- The greatest of a row is the greater of its halves' greatest. -/
theorem fold_max_halves (f : Fin 2048 → EReal) :
    Finset.univ.fold max ⊥ f = max (Finset.univ.fold max ⊥ fun x => f (lo x)) (Finset.univ.fold max ⊥ fun x => f (hi x)) := by
  refine le_antisymm ((Finset.fold_max_le _).mpr ⟨bot_le, fun j _ => ?_⟩) (max_le ?_ ?_)
  · rcases lo_or_hi j with ⟨x, rfl⟩ | ⟨x, rfl⟩
    · exact le_max_of_le_left (le_fold_max (fun x => f (lo x)) x)
    · exact le_max_of_le_right (le_fold_max (fun x => f (hi x)) x)
  · exact (Finset.fold_max_le _).mpr ⟨bot_le, fun x _ => le_fold_max f _⟩
  · exact (Finset.fold_max_le _).mpr ⟨bot_le, fun x _ => le_fold_max f _⟩

/-- The greatest of scores below `⊤`, one of which is real, is real. -/
theorem isReal_fold_max {ι : Type} [Fintype ι] (f : ι → EReal) (h : ∀ i, f i ≠ ⊤) (a : ι) (ha : IsReal (f a)) :
    IsReal (Finset.univ.fold max ⊥ f) := by
  haveI : Nonempty ι := ⟨a⟩
  obtain ⟨i, hi⟩ := exists_fold_max f
  refine isReal_of_ne (by rw [hi]; exact h i) fun hb => ?_
  have := le_fold_max f a
  rw [hb, le_bot_iff] at this
  exact ha.ne_bot this

/-- A score less a real is not `⊤`. -/
theorem sub_ne_top {x m : EReal} (hx : x ≠ ⊤) (hm : IsReal m) : x - m ≠ ⊤ := by
  obtain ⟨r, rfl⟩ := hm
  by_cases h : x = ⊥
  · subst h; simp
  · exact ((isReal_of_ne hx h).sub (isReal_coe r)).ne_top

/-- Changing the number that is subtracted before `exp` multiplies by `exp` of the change. -/
theorem exp_shift {x m1 m2 : EReal} (hx : x ≠ ⊤) (h1 : IsReal m1) (h2 : IsReal m2) :
    Ideal.exp (m1 - m2) * Ideal.exp (x - m1) = Ideal.exp (x - m2) := by
  obtain ⟨a, rfl⟩ := h1
  obtain ⟨b, rfl⟩ := h2
  by_cases h : x = ⊥
  · subst h; rw [EReal.bot_sub, EReal.bot_sub, exp_bot, mul_zero]
  · obtain ⟨r, rfl⟩ := isReal_of_ne hx h
    rw [← EReal.coe_sub, ← EReal.coe_sub, ← EReal.coe_sub, exp_coe, exp_coe, exp_coe, ← EReal.coe_mul, ← Real.exp_add]
    congr 2; ring

/-- Dividing after weighting, or before. -/
theorem div_mul_comm (p v : EReal) {d : EReal} (hd : IsPos d) : p * v * Ideal.div 1 d = Ideal.div p d * v := by
  obtain ⟨r, hr, rfl⟩ := hd
  rw [div_coe_pos _ hr, div_coe_pos _ hr, one_mul, mul_right_comm]

/-- A product with a positive real undoes the quotient by it. -/
theorem mul_div_cancel' (x : EReal) {d : EReal} (hd : IsPos d) : d * (x * Ideal.div 1 d) = x := by
  obtain ⟨r, hr, rfl⟩ := hd
  rw [div_coe_pos _ hr, one_mul, mul_comm, mul_assoc, ← EReal.coe_mul, inv_mul_cancel₀ hr.ne', EReal.coe_one, mul_one]

/-- The kernel's row: the first half's sum, rescaled, and the second half's. -/
theorem flash (s v : Fin 2048 → EReal) (hs : ∀ j, s j ≠ ⊤) (hr : IsReal (s 0)) (m1 m2 c : EReal)
    (hm1 : m1 = Finset.univ.fold max ⊥ fun x => s (lo x))
    (hm2 : m2 = max m1 (Finset.univ.fold max ⊥ fun x => s (hi x)))
    (hc : Ideal.exp c = Ideal.exp (m1 - m2)) :
    ((∑ x, Ideal.exp (s (hi x) - m2) * v (hi x))
        + (Ideal.exp c * ∑ x, Ideal.exp (s (lo x) - m1))
          * ((∑ x, Ideal.exp (s (lo x) - m1) * v (lo x)) * Ideal.div 1 (∑ x, Ideal.exp (s (lo x) - m1))))
      * Ideal.div 1 ((Ideal.exp c * ∑ x, Ideal.exp (s (lo x) - m1)) + ∑ x, Ideal.exp (s (hi x) - m2))
    = softRow s v := by
  have hM : Finset.univ.fold max ⊥ s = m2 := by rw [fold_max_halves, hm2, hm1]
  have r1 : IsReal m1 := hm1 ▸ isReal_fold_max (fun x => s (lo x)) (fun x => hs _) 0 hr
  have r2 : IsReal m2 := hM ▸ isReal_fold_max s hs 0 hr
  have n1 : ∀ x, IsNonneg (Ideal.exp (s (lo x) - m1)) := fun x => isNonneg_exp (sub_ne_top (hs _) r1)
  have p1 : IsPos (∑ x, Ideal.exp (s (lo x) - m1)) :=
    isPos_sum _ _ (fun x _ => n1 x) 0 (Finset.mem_univ _) (isPos_exp (IsReal.sub hr r1))
  have hcn : IsNonneg (Ideal.exp (m1 - m2)) := (isPos_exp (r1.sub r2)).nonneg
  have hT : Ideal.exp c * ∑ x, Ideal.exp (s (lo x) - m1) = ∑ x, Ideal.exp (s (lo x) - m2) := by
    rw [hc, hcn.mul_sum]
    exact Finset.sum_congr rfl fun x _ => exp_shift (hs _) r1 r2
  have hA : (Ideal.exp c * ∑ x, Ideal.exp (s (lo x) - m1))
      * ((∑ x, Ideal.exp (s (lo x) - m1) * v (lo x)) * Ideal.div 1 (∑ x, Ideal.exp (s (lo x) - m1)))
      = ∑ x, Ideal.exp (s (lo x) - m2) * v (lo x) := by
    rw [mul_assoc, mul_div_cancel' _ p1, hc, hcn.mul_sum]
    refine Finset.sum_congr rfl fun x _ => ?_
    rw [← mul_assoc, exp_shift (hs _) r1 r2]
  have n2 : ∀ j, IsNonneg (Ideal.exp (s j - m2)) := fun j => isNonneg_exp (sub_ne_top (hs _) r2)
  have hD : IsPos (∑ j, Ideal.exp (s j - m2)) :=
    isPos_sum _ _ (fun x _ => n2 x) 0 (Finset.mem_univ _) (isPos_exp (hr.sub r2))
  rw [hA, hT, softRow, hM, ← sum_halves fun j => Ideal.exp (s j - m2), add_comm (∑ x, Ideal.exp (s (hi x) - m2) * v (hi x)),
    ← sum_halves fun j => Ideal.exp (s j - m2) * v j, (isNonneg_one.div hD).sum_mul]
  exact Finset.sum_congr rfl fun j _ => div_mul_comm _ _ hD

/-- The values at masked scores do not matter. -/
theorem softRow_congr (s v v' : Fin 2048 → EReal) (hs : ∀ j, s j ≠ ⊤) (hr : IsReal (s 0)) (h : ∀ j, s j = ⊥ ∨ v j = v' j) :
    softRow s v = softRow s v' := by
  have r2 := isReal_fold_max s hs 0 hr
  have hD : IsPos (∑ j, Ideal.exp (s j - Finset.univ.fold max ⊥ s)) :=
    isPos_sum _ _ (fun j _ => isNonneg_exp (sub_ne_top (hs _) r2)) 0 (Finset.mem_univ _) (isPos_exp (hr.sub r2))
  refine Finset.sum_congr rfl fun j _ => ?_
  rcases h j with h | h
  · obtain ⟨d, hd, e⟩ := hD
    rw [h, EReal.bot_sub, exp_bot, e, div_coe_pos _ hd, zero_mul, zero_mul, zero_mul]
  · rw [h]

end Cert.Spec
end
-- ==== Proof.Spec.Model.lean ====
module

public import proofs.«01_k».proof.Proof.Spec.Gate
public import proofs.«01_k».proof.Proof.Spec.Attention

/-! The block as functions of rows of extended reals: the normalisation, the gate's scores, the mixture of the experts'
projections, the rotation, the residual sums. What the kernel and the reference compute is stated in these functions.
Which of them are real whatever they are given is proved here. -/

@[expose] public section

noncomputable section

namespace Cert.Spec

open Idealize.ShloMosaic
open scoped BigOperators

/-- The mean of a row. -/
def mean (x : Fin 1024 → EReal) : EReal := Ideal.div (∑ k, x k) (Ideal.ofBits .f32 0x44800000#32)

/-- The normalised row: less its mean, over the root of its variance, scaled and shifted. -/
def norm (x w b : Fin 1024 → EReal) (c : Fin 1024) : EReal :=
  Ideal.div (x c - mean x) (Ideal.sqrt (Ideal.div (∑ k, (x k - mean x) * (x k - mean x)) (Ideal.ofBits .f32 0x44800000#32)
    + Ideal.ofBits .f32 0x3727C5AC#32)) * w c + b c

/-- The length of a vector, from below by a small positive number. -/
def length {n : ℕ} (x : Fin n → EReal) : EReal := max (Ideal.sqrt (∑ k, x k * x k)) (Ideal.ofBits .f32 0x2B8CBCCC#32)

/-- `1 / (1 + exp (-x))`. -/
def sigmoid (x : EReal) : EReal := Ideal.div 1 (1 + Ideal.exp (-x))

/-- An expert's score: the cosine of the row and the expert's column, less the expert's threshold. -/
def logit (x : Fin 1024 → EReal) (S : Fin 1024 → Fin 8 → EReal) (g : Fin 8 → EReal) (e : Fin 8) : EReal :=
  ∑ k, Ideal.div (x k) (length x) * Ideal.div (S k e) (length fun j => S j e) - sigmoid (g e)

/-- The experts' weights of a row. -/
def gate (x : Fin 1024 → EReal) (S : Fin 1024 → Fin 8 → EReal) (g : Fin 8 → EReal) : Fin 8 → EReal := weight (logit x S g)

/-- The experts' projections of a row, mixed with the weights. -/
def mix (w : Fin 8 → EReal) (h : Fin 1024 → EReal) (W : Fin 8 → Fin 1024 → Fin 64 → EReal) (d : Fin 64) : EReal :=
  ∑ e, w e * ∑ c, h c * W e c d

/-- The rotation of the halves of a head. -/
def rope (q cs sn : Fin 64 → EReal) (d : Fin 64) : EReal :=
  q d * cs d + (if h : d.val < 32 then - q ⟨32 + d.val, by omega⟩ else q ⟨d.val - 32, by omega⟩) * sn d

/-- The score of the position `j` for the query `q` at position `n`: masked above the diagonal. -/
def score (q : Fin 64 → EReal) (k : Fin 2048 → Fin 64 → EReal) (n j : Fin 2048) : EReal :=
  if j ≤ n then (∑ d, q d * k j d) * (((1 : ℝ) / 8 : ℝ) : EReal) else ⊥

/-- The residual stream after the attention. -/
def afterAttn (x : Fin 1024 → EReal) (a : Fin 64 → EReal) (w : Fin 8 → EReal) (Wo : Fin 8 → Fin 64 → Fin 1024 → EReal) (c : Fin 1024) : EReal :=
  x c + ∑ e, ∑ d, (a d * w e) * Wo e d c

/-- `x / (1 + exp (-x))`. -/
def silu (x : EReal) : EReal := x * sigmoid x

/-- The feed-forward experts of a row, mixed with the weights. -/
def experts (x : Fin 1024 → EReal) (w : Fin 8 → EReal) (up : Fin 8 → Fin 1024 → Fin 256 → EReal) (down : Fin 8 → Fin 256 → Fin 1024 → EReal)
    (c : Fin 1024) : EReal :=
  ∑ e, ∑ i, (silu (∑ k, x k * up e k i) * w e) * down e i c

/-- A real of absolute value at most one. -/
def IsUnit1 (x : EReal) : Prop := ∃ r : ℝ, |r| ≤ 1 ∧ x = (r : EReal)

/-- A product of numbers between -1 and 1 is one. -/
theorem IsUnit1.mul {x y : EReal} (hx : IsUnit1 x) (hy : IsUnit1 y) : IsUnit1 (x * y) := by
  obtain ⟨a, ha, rfl⟩ := hx
  obtain ⟨b, hb, rfl⟩ := hy
  exact ⟨a * b, by rw [abs_mul]; exact mul_le_one₀ ha (abs_nonneg b) hb, by rw [EReal.coe_mul]⟩

/-- An entry of a vector over its length is at most one, whatever the vector holds. -/
theorem isUnit1_div_length {n : ℕ} (x : Fin n → EReal) (c : Fin n) : IsUnit1 (Ideal.div (x c) (length x)) := by
  obtain ⟨f, hf, ef⟩ := isPos_norm_floor
  by_cases h : ∀ k, IsReal (x k)
  · choose y hy using h
    have hS : ∑ k, x k * x k = ((∑ k, y k * y k : ℝ) : EReal) := by
      rw [← EReal.coe_toReal (x := ((∑ k, y k * y k : ℝ) : EReal)) (EReal.coe_ne_top _) (EReal.coe_ne_bot _)]
      rw [EReal.toReal_coe]
      induction (Finset.univ : Finset (Fin n)) using Finset.cons_induction with
      | empty => simp
      | cons a s ha ih => rw [Finset.sum_cons, Finset.sum_cons, EReal.coe_add, ih, hy a, EReal.coe_mul]
    have h0 : 0 ≤ ∑ k, y k * y k := Finset.sum_nonneg fun k _ => mul_self_nonneg _
    have hL : length x = ((max (Real.sqrt (∑ k, y k * y k)) f : ℝ) : EReal) := by
      rw [length, hS, sqrt_coe h0, ef]; exact (EReal.coe_strictMono.monotone.map_max).symm
    have hp : 0 < max (Real.sqrt (∑ k, y k * y k)) f := lt_max_of_lt_right hf
    refine ⟨y c * (max (Real.sqrt (∑ k, y k * y k)) f)⁻¹, ?_, ?_⟩
    · rw [abs_mul, abs_inv, abs_of_pos hp, ← div_eq_mul_inv, div_le_one hp]
      refine le_max_of_le_left ?_
      rw [← Real.sqrt_sq_eq_abs, sq]
      exact Real.sqrt_le_sqrt (Finset.single_le_sum (f := fun k => y k * y k) (fun k _ => mul_self_nonneg _) (Finset.mem_univ c))
    · rw [hL, div_coe_pos _ hp, hy c, EReal.coe_mul]
  · obtain ⟨k, hk⟩ := not_forall.mp h
    have hL : length x = ⊤ := by
      rw [length, sum_sq_eq_top x k hk, sqrt_top]; exact max_eq_left le_top
    exact ⟨0, by simp, by rw [hL, div_top]; simp⟩

/-- A sigmoid is one. -/
theorem isUnit1_sigmoid (x : EReal) : IsUnit1 (sigmoid x) := by
  unfold sigmoid
  induction x using EReal.rec with
  | bot => exact ⟨0, by simp, by
      rw [EReal.neg_bot, show Ideal.exp ⊤ = ⊤ from rfl, show (1 : EReal) + ⊤ = ⊤ from EReal.add_top_of_ne_bot isReal_one.ne_bot, div_top]; simp⟩
  | top => exact ⟨1, by simp, by
      rw [EReal.neg_top, exp_bot, add_zero, show (1 : EReal) = ((1 : ℝ) : EReal) by simp, div_coe_pos _ one_pos, inv_one, ← EReal.coe_mul, mul_one]⟩
  | coe r =>
    have hp : 0 < 1 + Real.exp (-r) := by positivity
    refine ⟨1 * (1 + Real.exp (-r))⁻¹, ?_, ?_⟩
    · rw [one_mul, abs_inv, abs_of_pos hp]
      exact inv_le_one_of_one_le₀ (by linarith [Real.exp_pos (-r)])
    · rw [← EReal.coe_neg, exp_coe, show (1 : EReal) = ((1 : ℝ) : EReal) by simp, ← EReal.coe_add, div_coe_pos _ hp, EReal.coe_mul]

/-- A sum of `n` reals that are at most one is at most `n`. -/
theorem sum_unit1 {n : ℕ} (f : Fin n → EReal) (h : ∀ k, IsUnit1 (f k)) : ∃ r : ℝ, |r| ≤ n ∧ ∑ k, f k = (r : EReal) := by
  choose y hy ey using h
  have key : ∀ s : Finset (Fin n), ∃ r : ℝ, |r| ≤ s.card ∧ ∑ k ∈ s, f k = (r : EReal) := fun s => by
    induction s using Finset.cons_induction with
    | empty => exact ⟨0, by simp, by simp⟩
    | cons a s ha ih =>
      obtain ⟨r, hr, er⟩ := ih
      refine ⟨y a + r, ?_, by rw [Finset.sum_cons, er, ey a, EReal.coe_add]⟩
      rw [Finset.card_cons]; push_cast
      exact (abs_add_le _ _).trans (by linarith [hy a])
  simpa using key Finset.univ

/-- A logit is real and bounded, whatever the row is, -/
theorem logit_bound (x : Fin 1024 → EReal) (S : Fin 1024 → Fin 8 → EReal) (g : Fin 8 → EReal) (e : Fin 8) :
    ∃ r : ℝ, |r| ≤ 1025 ∧ logit x S g e = (r : EReal) := by
  obtain ⟨a, ha, ea⟩ := sum_unit1 (fun k => Ideal.div (x k) (length x) * Ideal.div (S k e) (length fun j => S j e)) fun k =>
    (isUnit1_div_length x k).mul (isUnit1_div_length (fun j => S j e) k)
  obtain ⟨b, hb, eb⟩ := isUnit1_sigmoid (g e)
  refine ⟨a - b, (abs_sub _ _).trans ?_, by rw [logit, ea, eb, EReal.coe_sub]⟩
  push_cast at ha
  linarith

/-- The scores are real and above the number that marks a taken expert, whatever the row and the parameters hold. -/
theorem isReal_logit (x : Fin 1024 → EReal) (S : Fin 1024 → Fin 8 → EReal) (g : Fin 8 → EReal) (e : Fin 8) : IsReal (logit x S g e) :=
  let ⟨r, _, h⟩ := logit_bound x S g e; ⟨r, h⟩

/-- and so lies above the kernel's low literal. -/
theorem above_logit (x : Fin 1024 → EReal) (S : Fin 1024 → Fin 8 → EReal) (g : Fin 8 → EReal) : Above (logit x S g) := fun e => by
  obtain ⟨r, hr, h⟩ := logit_bound x S g e
  rw [h]
  refine low_lt.trans (EReal.coe_lt_coe_iff.mpr ?_)
  linarith [(abs_le.mp hr).1]

/-- The gate's weights are nonnegative reals. -/
theorem isNonneg_gate (x : Fin 1024 → EReal) (S : Fin 1024 → Fin 8 → EReal) (g : Fin 8 → EReal) (e : Fin 8) : IsNonneg (gate x S g e) :=
  isNonneg_weight (isReal_logit x S g) e

/-- A normalised row is real, whatever the row holds, where the scale and the shift are. -/
theorem isReal_norm (x w b : Fin 1024 → EReal) (c : Fin 1024) (hw : IsReal (w c)) (hb : IsReal (b c)) : IsReal (norm x w b c) := by
  refine IsReal.add (IsReal.mul ?_ hw) hb
  by_cases h : ∀ k, IsReal (x k - mean x)
  · refine (h c).div (isPos_sqrt ?_)
    rw [add_comm]
    exact isPos_var_floor.add_nonneg (IsNonneg.div (isNonneg_sum _ _ fun k _ => by
      obtain ⟨r, hr⟩ := h k; exact ⟨r * r, mul_self_nonneg r, by rw [hr, EReal.coe_mul]⟩) isPos_row)
  · obtain ⟨k, hk⟩ := not_forall.mp h
    obtain ⟨n, hn, en⟩ := isPos_row
    obtain ⟨f, hf, ef⟩ := isPos_var_floor
    rw [sum_sq_eq_top (fun k => x k - mean x) k hk, en, div_coe_pos _ hn, EReal.top_mul_coe_of_pos (inv_pos.mpr hn), ef,
      EReal.top_add_coe, sqrt_top, div_top]
    exact isReal_zero

/-- Mixing reals gives reals, -/
theorem isReal_mix (w : Fin 8 → EReal) (h : Fin 1024 → EReal) (W : Fin 8 → Fin 1024 → Fin 64 → EReal) (d : Fin 64)
    (hw : ∀ e, IsReal (w e)) (hh : ∀ c, IsReal (h c)) (hW : ∀ e c, IsReal (W e c d)) : IsReal (mix w h W d) :=
  isReal_sum _ _ fun e _ => (hw e).mul (isReal_sum _ _ fun c _ => (hh c).mul (hW e c))

/-- turning them does, -/
theorem isReal_rope (q cs sn : Fin 64 → EReal) (d : Fin 64) (hq : ∀ d, IsReal (q d)) (hc : IsReal (cs d)) (hs : IsReal (sn d)) :
    IsReal (rope q cs sn d) := by
  refine ((hq d).mul hc).add (IsReal.mul ?_ hs)
  split
  · exact (hq _).neg
  · exact hq _

/-- and their products are real. -/
theorem isReal_dot (q k : Fin 64 → EReal) (hq : ∀ d, IsReal (q d)) (hk : ∀ d, IsReal (k d)) : IsReal (∑ d, q d * k d) :=
  isReal_sum _ _ fun d _ => (hq d).mul (hk d)

/-- The scores are below `⊤`, where the queries and keys are real, and the first is real. -/
theorem score_ne_top (q : Fin 64 → EReal) (k : Fin 2048 → Fin 64 → EReal) (hq : ∀ d, IsReal (q d)) (hk : ∀ j d, IsReal (k j d))
    (n j : Fin 2048) : score q k n j ≠ ⊤ := by
  unfold score
  split
  · exact ((isReal_dot q (k j) hq (hk j)).mul (isReal_coe _)).ne_top
  · exact bot_ne_top

/-- The score with the first key is real. -/
theorem isReal_score_zero (q : Fin 64 → EReal) (k : Fin 2048 → Fin 64 → EReal) (hq : ∀ d, IsReal (q d)) (hk : ∀ j d, IsReal (k j d))
    (n : Fin 2048) : IsReal (score q k n 0) := by
  unfold score
  rw [if_pos (Fin.zero_le n)]
  exact (isReal_dot q (k 0) hq (hk 0)).mul (isReal_coe _)

end Cert.Spec
end
-- ==== Proof.Spec.Whole.lean ====
module

public import proofs.«01_k».proof.Proof.Spec.Model

/-! The whole block as a function of its inputs: what the kernel and the reference both compute. -/

@[expose] public section

noncomputable section

namespace Cert.Spec

open Idealize.ShloMosaic
open scoped BigOperators

/-- The frequency of a pair of a head's coordinates. -/
def freq (i : Fin 32) : EReal :=
  Ideal.div 1 (Ideal.pow (Ideal.ofBits .f32 0x461C4000#32)
    (Ideal.div (Ideal.ofBits .f32 0x40000000#32 * FloatOps.sitofp (F := Ideal) .f32 (BitVec.ofNat 32 i.val)) (Ideal.ofBits .f32 0x42800000#32)))

/-- The angle that a position turns a head's coordinate by. -/
def angle (p : BitVec 32) (d : Fin 64) : EReal :=
  if h : d.val < 32 then FloatOps.sitofp (F := Ideal) .f32 p * freq ⟨d.val, h⟩
  else FloatOps.sitofp (F := Ideal) .f32 p * freq ⟨d.val - 32, by omega⟩

/-- A position read as a float is real, -/
theorem isReal_word (p : BitVec 32) : IsReal (FloatOps.sitofp (F := Ideal) .f32 p) := ⟨(p.toInt : ℝ), rfl⟩

/-- a frequency is, -/
theorem isReal_freq (i : Fin 32) : IsReal (freq i) := by
  unfold freq
  obtain ⟨b, hb, eb⟩ := isPos_base
  have he : IsReal (Ideal.div (Ideal.ofBits .f32 0x40000000#32 * FloatOps.sitofp (F := Ideal) .f32 (BitVec.ofNat 32 i.val))
      (Ideal.ofBits .f32 0x42800000#32)) :=
    (isPos_two.real.mul (isReal_word _)).div ⟨64, by norm_num, ofBits_64⟩
  obtain ⟨x, hx⟩ := he
  rw [hx, eb]
  refine isReal_one.div ⟨b ^ x, Real.rpow_pos_of_pos hb x, ?_⟩
  rfl

/-- and so an angle. -/
theorem isReal_angle (p : BitVec 32) (d : Fin 64) : IsReal (angle p d) := by
  unfold angle
  split
  · exact (isReal_word p).mul (isReal_freq _)
  · exact (isReal_word p).mul (isReal_freq _)

/-- The block's inputs. -/
structure Inputs where
  /-- The residual stream, a row for each position. -/
  x : Fin 2048 → Fin 1024 → EReal
  /-- The first normalisation's scale -/
  w1 : Fin 1024 → EReal
  /-- and shift. -/
  b1 : Fin 1024 → EReal
  /-- The attention's gate: its columns -/
  S1 : Fin 1024 → Fin 8 → EReal
  /-- and thresholds. -/
  g1 : Fin 8 → EReal
  /-- The experts' projections to queries, -/
  Wq : Fin 8 → Fin 1024 → Fin 64 → EReal
  /-- keys, -/
  Wk : Fin 8 → Fin 1024 → Fin 64 → EReal
  /-- values, -/
  Wv : Fin 8 → Fin 1024 → Fin 64 → EReal
  /-- and back. -/
  Wo : Fin 8 → Fin 64 → Fin 1024 → EReal
  /-- The second normalisation's scale -/
  w2 : Fin 1024 → EReal
  /-- and shift. -/
  b2 : Fin 1024 → EReal
  /-- The second gate's columns -/
  S2 : Fin 1024 → Fin 8 → EReal
  /-- and thresholds. -/
  g2 : Fin 8 → EReal
  /-- The feed-forward experts' first -/
  up : Fin 8 → Fin 1024 → Fin 256 → EReal
  /-- and second matrices. -/
  down : Fin 8 → Fin 256 → Fin 1024 → EReal
  /-- The positions. -/
  pos : Fin 2048 → BitVec 32

namespace Inputs

variable (I : Inputs)

/-- The normalised rows. -/
def h (s : Fin 2048) : Fin 1024 → EReal := norm (I.x s) I.w1 I.b1
/-- The attention experts' weights. -/
def w (s : Fin 2048) : Fin 8 → EReal := gate (I.h s) I.S1 I.g1
/-- The rotation's cosines -/
def cs (s : Fin 2048) (d : Fin 64) : EReal := Ideal.cos (angle (I.pos s) d)
/-- and sines. -/
def sn (s : Fin 2048) (d : Fin 64) : EReal := Ideal.sin (angle (I.pos s) d)
/-- The queries, rotated. -/
def q (s : Fin 2048) : Fin 64 → EReal := rope (mix (I.w s) (I.h s) I.Wq) (I.cs s) (I.sn s)
/-- The keys, rotated. -/
def k (s : Fin 2048) : Fin 64 → EReal := rope (mix (I.w s) (I.h s) I.Wk) (I.cs s) (I.sn s)
/-- The values. -/
def v (s : Fin 2048) : Fin 64 → EReal := mix (I.w s) (I.h s) I.Wv
/-- The attention. -/
def attn (s : Fin 2048) (d : Fin 64) : EReal := softRow (score (I.q s) I.k s) fun j => I.v j d
/-- The residual stream after it. -/
def h1 (s : Fin 2048) : Fin 1024 → EReal := afterAttn (I.x s) (I.attn s) (I.w s) I.Wo
/-- Its normalised rows. -/
def h2 (s : Fin 2048) : Fin 1024 → EReal := norm (I.h1 s) I.w2 I.b2
/-- The block's result. -/
def out (s : Fin 2048) (c : Fin 1024) : EReal := I.h1 s c + experts (I.h2 s) (gate (I.h2 s) I.S2 I.g2) I.up I.down c

/-- The inputs that the scores are computed from are real. -/
structure Finite : Prop where
  w1 : ∀ c, IsReal (I.w1 c)
  b1 : ∀ c, IsReal (I.b1 c)
  Wq : ∀ e c d, IsReal (I.Wq e c d)
  Wk : ∀ e c d, IsReal (I.Wk e c d)

variable {I}

/-- With finite inputs the normalised rows are real, -/
theorem isReal_h (H : I.Finite) (s : Fin 2048) (c : Fin 1024) : IsReal (I.h s c) := isReal_norm _ _ _ _ (H.w1 c) (H.b1 c)

/-- the queries -/
theorem isReal_q (H : I.Finite) (s : Fin 2048) (d : Fin 64) : IsReal (I.q s d) :=
  isReal_rope _ _ _ _ (fun d => isReal_mix _ _ _ _ (fun e => (isNonneg_gate _ _ _ e).real) (isReal_h H s) fun e c => H.Wq e c d)
    (isReal_cos (isReal_angle _ _)) (isReal_sin (isReal_angle _ _))

/-- and the keys. -/
theorem isReal_k (H : I.Finite) (s : Fin 2048) (d : Fin 64) : IsReal (I.k s d) :=
  isReal_rope _ _ _ _ (fun d => isReal_mix _ _ _ _ (fun e => (isNonneg_gate _ _ _ e).real) (isReal_h H s) fun e c => H.Wk e c d)
    (isReal_cos (isReal_angle _ _)) (isReal_sin (isReal_angle _ _))

end Inputs

end Cert.Spec
end
-- ==== Proof.Launch.Host.lean ====
module

public import proofs.«01_k».proof.Proof.Gen.KernelIdeal.Frame
public import proofs.«01_k».proof.Proof.Spec.Whole
public import Idealize.ShloMosaic.Lib.Claim
public import Idealize.ShloMosaic.Lib.Pointwise

/-! What the kernel's host line hands to the launch: each array as the block's mathematics names it. -/

@[expose] public section

set_option maxRecDepth 16384

noncomputable section

namespace Cert.KernelIdeal.Gen

open Idealize.ShloMosaic Idealize.ShloMosaic.TcCoe Idealize.SL.Sem Idealize.ShloMosaic.Tactic
open Cert.Spec
open scoped BigOperators

variable (m : (ℓ : Loc nD τ sig) → Buf (Elt Ideal) ℓ) (c : Dev nD)

/-- The launch's arguments as the block's inputs. -/
def inputs : Inputs where
  x s k := (show FVec Ideal S1x2048x1024 .f32 from m ((c : Thread nD τ).loc main_arg0)) (ix3 0 s k)
  w1 k := (show FVec Ideal S1024 .f32 from m ((c : Thread nD τ).loc main_arg1)) (ix1 k)
  b1 k := (show FVec Ideal S1024 .f32 from m ((c : Thread nD τ).loc main_arg2)) (ix1 k)
  S1 k e := (show FVec Ideal S1024x8 .f32 from m ((c : Thread nD τ).loc main_arg3)) (ix2 k e)
  g1 e := (show FVec Ideal S8 .f32 from m ((c : Thread nD τ).loc main_arg4)) (ix1 e)
  Wq e k d := (show FVec Ideal S8x1024x64 .f32 from m ((c : Thread nD τ).loc main_arg5)) (ix3 e k d)
  Wk e k d := (show FVec Ideal S8x1024x64 .f32 from m ((c : Thread nD τ).loc main_arg6)) (ix3 e k d)
  Wv e k d := (show FVec Ideal S8x1024x64 .f32 from m ((c : Thread nD τ).loc main_arg7)) (ix3 e k d)
  Wo e d k := (show FVec Ideal S8x64x1024 .f32 from m ((c : Thread nD τ).loc main_arg8)) (ix3 e d k)
  w2 k := (show FVec Ideal S1024 .f32 from m ((c : Thread nD τ).loc main_arg9)) (ix1 k)
  b2 k := (show FVec Ideal S1024 .f32 from m ((c : Thread nD τ).loc main_arg10)) (ix1 k)
  S2 k e := (show FVec Ideal S1024x8 .f32 from m ((c : Thread nD τ).loc main_arg11)) (ix2 k e)
  g2 e := (show FVec Ideal S8 .f32 from m ((c : Thread nD τ).loc main_arg12)) (ix1 e)
  up e k i := (show FVec Ideal S8x1024x256 .f32 from m ((c : Thread nD τ).loc main_arg13)) (ix3 e k i)
  down e i k := (show FVec Ideal S8x256x1024 .f32 from m ((c : Thread nD τ).loc main_arg14)) (ix3 e i k)
  pos s := (show IVec S1x2048 32 from m ((c : Thread nD τ).loc main_arg15)) (ix2 0 s)

/-- The residual stream as rows, -/
theorem host_x (s : Fin 2048) (k : Fin 1024) : (show FVec Ideal S2048x1024 .f32 from V m c main_v0) (ix2 s k) = (inputs m c).x s k := by
  show StableHlo.after hostOps0 (fun b => m (c, b)) _ _ = _
  unfold hostOps0
  after_results
  pointwise
  rfl

/-- the normalised rows, -/
theorem host_h (s : Fin 2048) (k : Fin 1024) : (show FVec Ideal S2048x1024 .f32 from V m c main_v22) (ix2 s k) = (inputs m c).h s k := by
  show StableHlo.after hostOps0 (fun b => m (c, b)) _ _ = _
  unfold hostOps0
  after_results
  pointwise
  rfl

/-- their lengths, -/
theorem host_length (s : Fin 2048) : (show FVec Ideal S2048x1 .f32 from V m c main_v28) (ix2 s 0) = length ((inputs m c).h s) := by
  show StableHlo.after hostOps0 (fun b => m (c, b)) _ _ = _
  unfold hostOps0
  after_results
  pointwise
  rfl

/-- the attention gate's columns, each by its length, -/
theorem host_S1 (k : Fin 1024) (e : Fin 8) : (show FVec Ideal S1024x8 .f32 from V m c main_v36) (ix2 k e)
    = Ideal.div ((inputs m c).S1 k e) (length fun j => (inputs m c).S1 j e) := by
  show StableHlo.after hostOps0 (fun b => m (c, b)) _ _ = _
  unfold hostOps0
  after_results
  pointwise
  rfl

/-- and thresholds; -/
theorem host_g1 (e : Fin 8) : (show FVec Ideal S1x8 .f32 from V m c main_v51) (ix2 0 e) = sigmoid ((inputs m c).g1 e) := by
  show StableHlo.after hostOps0 (fun b => m (c, b)) _ _ = _
  unfold hostOps0
  after_results
  pointwise
  rfl

/-- the experts' gate's columns -/
theorem host_S2 (k : Fin 1024) (e : Fin 8) : (show FVec Ideal S1024x8 .f32 from V m c main_v44) (ix2 k e)
    = Ideal.div ((inputs m c).S2 k e) (length fun j => (inputs m c).S2 j e) := by
  show StableHlo.after hostOps0 (fun b => m (c, b)) _ _ = _
  unfold hostOps0
  after_results
  pointwise
  rfl

/-- and thresholds; -/
theorem host_g2 (e : Fin 8) : (show FVec Ideal S1x8 .f32 from V m c main_v58) (ix2 0 e) = sigmoid ((inputs m c).g2 e) := by
  show StableHlo.after hostOps0 (fun b => m (c, b)) _ _ = _
  unfold hostOps0
  after_results
  pointwise
  rfl

/-- the projections to queries, expert after expert, -/
theorem host_Wq (k : Fin 1024) (e : Fin 8) (d : Fin 64) :
    (show FVec Ideal S1024x512 .f32 from V m c main_v60) (ix2 k ⟨e.val * 64 + d.val, by omega⟩) = (inputs m c).Wq e k d := by
  show StableHlo.after hostOps0 (fun b => m (c, b)) _ _ = _
  unfold hostOps0
  after_results
  pointwise
  rfl

/-- to keys, -/
theorem host_Wk (k : Fin 1024) (e : Fin 8) (d : Fin 64) :
    (show FVec Ideal S1024x512 .f32 from V m c main_v62) (ix2 k ⟨e.val * 64 + d.val, by omega⟩) = (inputs m c).Wk e k d := by
  show StableHlo.after hostOps0 (fun b => m (c, b)) _ _ = _
  unfold hostOps0
  after_results
  pointwise
  rfl

/-- to values, -/
theorem host_Wv (k : Fin 1024) (e : Fin 8) (d : Fin 64) :
    (show FVec Ideal S1024x512 .f32 from V m c main_v64) (ix2 k ⟨e.val * 64 + d.val, by omega⟩) = (inputs m c).Wv e k d := by
  show StableHlo.after hostOps0 (fun b => m (c, b)) _ _ = _
  unfold hostOps0
  after_results
  pointwise
  rfl

/-- and back; -/
theorem host_Wo (k : Fin 1024) (e : Fin 8) (d : Fin 64) :
    (show FVec Ideal S512x1024 .f32 from V m c main_v65) (ix2 ⟨e.val * 64 + d.val, by omega⟩ k) = (inputs m c).Wo e d k := by
  show StableHlo.after hostOps0 (fun b => m (c, b)) _ _ = _
  unfold hostOps0
  after_results
  pointwise
  rfl

/-- the cosines -/
theorem host_cs (s : Fin 2048) (d : Fin 64) : (show FVec Ideal S2048x64 .f32 from V m c main_v85) (ix2 s d) = (inputs m c).cs s d := by
  show StableHlo.after hostOps0 (fun b => m (c, b)) _ _ = _
  unfold hostOps0
  after_results
  pointwise
  rfl

/-- and the sines of the positions' angles; -/
theorem host_sn (s : Fin 2048) (d : Fin 64) : (show FVec Ideal S2048x64 .f32 from V m c main_v86) (ix2 s d) = (inputs m c).sn s d := by
  show StableHlo.after hostOps0 (fun b => m (c, b)) _ _ = _
  unfold hostOps0
  after_results
  pointwise
  rfl

/-- the second normalisation's scale -/
theorem host_w2 (k : Fin 1024) : (show FVec Ideal S1x1024 .f32 from V m c main_v87) (ix2 0 k) = (inputs m c).w2 k := by
  show StableHlo.after hostOps0 (fun b => m (c, b)) _ _ = _
  unfold hostOps0
  after_results
  pointwise
  rfl

/-- and shift. -/
theorem host_b2 (k : Fin 1024) : (show FVec Ideal S1x1024 .f32 from V m c main_v88) (ix2 0 k) = (inputs m c).b2 k := by
  show StableHlo.after hostOps0 (fun b => m (c, b)) _ _ = _
  unfold hostOps0
  after_results
  pointwise
  rfl

end Cert.KernelIdeal.Gen
end
-- ==== Proof.Body.Point.lean ====
module

public import proofs.«01_k».proof.Proof.Gen.KernelIdeal.Frame
public import proofs.«01_k».proof.Proof.Gen.KernelIdeal.Skeleton

/-! What one grid point of the kernel computes, as a function of its windows' blocks and of the two scratch buffers:
the keys and the values it stores, and the block of the result. -/

@[expose] public section

set_option maxRecDepth 16384

noncomputable section

namespace Cert.KernelIdeal.Gen

open Idealize.ShloMosaic Idealize.ShloMosaic.TcCoe

variable {F : FTy → Type} [FloatOps F] [Named F]

/-- The `scf.if` of the body is taken: the point is the grid's first. -/
abbrev cond0_0 (i : grid0.Coords) : Prop := (Scalar.cmpi .ne (Scalar.extui (Scalar.cmpi .eq (BitVec.ofNat 32 (i 0).val) 0#32)) 0#32) = 1#1

/-- The part of the array `X` the load of `B` takes. -/
def pick {s : Shape} {e : EltTy} (X : Vec F s e) (B : LoadRect s) : B.shape.Idx → Elt F e := fun j => X (B.idx j)

/-- A load of all of an array takes the array. -/
theorem pick_whole {s : Shape} {e : EltTy} (X : Vec F s e) {off : Fin s.rank → Nat} (h : off = fun _ => 0)
    (inb : ∀ a, off a + s.size a ≤ s.size a) : pick X (Rect.unit (s := s) off s.size inb).toLoadRect = X := by
  subst h
  funext j
  exact congrArg X (Rect.emb_whole_apply _ j)

/-- The same of an array of two axes. -/
theorem pick00 {e : EltTy} {a b : ℕ} (X : Vec F ⟨2, ![a, b]⟩ e)
    (inb : ∀ k, (![0, 0] : Fin 2 → ℕ) k + (![a, b] : Fin 2 → ℕ) k ≤ (![a, b] : Fin 2 → ℕ) k) :
    pick X (Rect.unit (s := ⟨2, ![a, b]⟩) ![0, 0] ![a, b] inb).toLoadRect = X :=
  pick_whole X (by funext k; fin_cases k <;> rfl) inb

/-- A load through a whole memref that holds the array `x` takes the part of `x`. -/
theorem readAt_unread {κ : Kind} {sp : Space} {s : Shape} {e : EltTy} {arg : Memref sig κ sp s e} (harg : arg.IsWhole) (x : Vec F s e)
    (B : LoadRect s) : View.readAt (Elt F) arg.view B (harg.unread x) = pick x B := by
  funext j
  show arg.view.read (Elt F) (harg.unread x) (B.idx j) = x (B.idx j)
  rw [harg.read_unread]

/-- The same load, of anything the memref holds, takes the part of what it reads. -/
theorem readAt_eq_pick {κ : Kind} {sp : Space} {s : Shape} {e : EltTy} (arg : Memref sig κ sp s e) (f : arg.view.ty.Contents (Elt F))
    (B : LoadRect s) : View.readAt (Elt F) arg.view B f = pick (arg.view.read (Elt F) f) B := rfl

/-- The expert weights of the attention's gate. -/
def gateW (x0 : Vec F S256x1024 .f32) (x1 : Vec F S256x1 .f32) (x3 : Vec F S1024x8 .f32) (x4 : Vec F S1x8 .f32) : FVec F S256x8 .f32 :=
  k0_pay6 (k0_pay2 x0 x1 x3 x4) (k0_pay3 x0 x1 x3 x4) (k0_pay4 x0 x1 x3 x4) (k0_pay5 x0 x1 x3 x4) (Scalar.ofBits .f32 0#32)

/-- The block's queries, before the rotation. -/
def queries (x0 : Vec F S256x1024 .f32) (x1 : Vec F S256x1 .f32) (x3 : Vec F S1024x8 .f32) (x4 : Vec F S1x8 .f32) (x5 : Vec F S1024x512 .f32) : FVec F S256x64 .f32 :=
  k0_pay11 (gateW x0 x1 x3 x4) (k0_pay7 (k0_pay1 x0) x5)
    (k0_pay8 (k0_pay1 x0) (k0_pay2 x0 x1 x3 x4) (k0_pay3 x0 x1 x3 x4) (k0_pay4 x0 x1 x3 x4) (k0_pay5 x0 x1 x3 x4) (Scalar.ofBits .f32 0#32) x5)
    (k0_pay9 (k0_pay1 x0) x5)
    (k0_pay10 (k0_pay2 x0 x1 x3 x4) (k0_pay3 x0 x1 x3 x4) (k0_pay4 x0 x1 x3 x4) (k0_pay5 x0 x1 x3 x4) (Scalar.ofBits .f32 0#32))

/-- The block's queries, rotated. -/
def queriesRot (x0 : Vec F S256x1024 .f32) (x1 : Vec F S256x1 .f32) (x3 : Vec F S1024x8 .f32) (x4 : Vec F S1x8 .f32) (x5 : Vec F S1024x512 .f32) (x8 x9 : Vec F S256x64 .f32) : FVec F S256x64 .f32 :=
  k0_pay16 (queries x0 x1 x3 x4 x5) x8 x9

/-- The block's keys, rotated and transposed: what the point stores into the first scratch buffer. -/
def keysT (x0 : Vec F S256x1024 .f32) (x1 : Vec F S256x1 .f32) (x3 : Vec F S1024x8 .f32) (x4 : Vec F S1x8 .f32) (x6 : Vec F S1024x512 .f32) (x8 x9 : Vec F S256x64 .f32) : FVec F S64x256 .f32 :=
  k0_pay18 (k0_pay12 (k0_pay1 x0) (gateW x0 x1 x3 x4) x6) (k0_pay14 x8) (k0_pay15 x9)

/-- The block's values: what the point stores into the second scratch buffer. -/
def valuesB (x0 : Vec F S256x1024 .f32) (x1 : Vec F S256x1 .f32) (x3 : Vec F S1024x8 .f32) (x4 : Vec F S1x8 .f32) (x7 : Vec F S1024x512 .f32) : FVec F S256x64 .f32 :=
  k0_pay19 (k0_pay13 (k0_pay1 x0) (gateW x0 x1 x3 x4) x7)

/-- The attention of the block's queries over all the keys `K` and values `V` held in the scratch buffers. -/
def attn (i : grid0.Coords) (qe : FVec F S256x64 .f32) (K : Vec F S64x2048 .f32) (V : Vec F S2048x64 .f32) : FVec F S256x64 .f32 :=
  k0_pay25 V (k0_pay22 (BitVec.ofNat 32 (i 0).val) qe K) (k0_pay23 (BitVec.ofNat 32 (i 0).val) qe K) (k0_pay24 (BitVec.ofNat 32 (i 0).val) qe K)

/-- The residual stream after the attention. -/
def resid (i : grid0.Coords) (w : FVec F S256x8 .f32) (qe : FVec F S256x64 .f32) (K : Vec F S64x2048 .f32) (V : Vec F S2048x64 .f32) (x2 : Vec F S256x1024 .f32) (x10 : Vec F S512x1024 .f32) : FVec F S256x1024 .f32 :=
  k0_pay33 w (attn i qe K V) (k0_pay26 w V (k0_pay22 (BitVec.ofNat 32 (i 0).val) qe K) (k0_pay23 (BitVec.ofNat 32 (i 0).val) qe K) (k0_pay24 (BitVec.ofNat 32 (i 0).val) qe K)) (k0_pay27 w V (k0_pay22 (BitVec.ofNat 32 (i 0).val) qe K) (k0_pay23 (BitVec.ofNat 32 (i 0).val) qe K) (k0_pay24 (BitVec.ofNat 32 (i 0).val) qe K)) (k0_pay28 w V (k0_pay22 (BitVec.ofNat 32 (i 0).val) qe K) (k0_pay23 (BitVec.ofNat 32 (i 0).val) qe K) (k0_pay24 (BitVec.ofNat 32 (i 0).val) qe K)) (k0_pay29 w V (k0_pay22 (BitVec.ofNat 32 (i 0).val) qe K) (k0_pay23 (BitVec.ofNat 32 (i 0).val) qe K) (k0_pay24 (BitVec.ofNat 32 (i 0).val) qe K)) (k0_pay30 w V (k0_pay22 (BitVec.ofNat 32 (i 0).val) qe K) (k0_pay23 (BitVec.ofNat 32 (i 0).val) qe K) (k0_pay24 (BitVec.ofNat 32 (i 0).val) qe K)) (k0_pay31 w V (k0_pay22 (BitVec.ofNat 32 (i 0).val) qe K) (k0_pay23 (BitVec.ofNat 32 (i 0).val) qe K) (k0_pay24 (BitVec.ofNat 32 (i 0).val) qe K)) (k0_pay32 w) x2 x10

/-- The residual stream's normalised rows. -/
def normed (i : grid0.Coords) (w : FVec F S256x8 .f32) (qe : FVec F S256x64 .f32) (K : Vec F S64x2048 .f32) (V : Vec F S2048x64 .f32) (x2 : Vec F S256x1024 .f32) (x10 : Vec F S512x1024 .f32) (x11 x12 : Vec F S1x1024 .f32) : FVec F S256x1024 .f32 :=
  k0_pay34 w (attn i qe K V) (k0_pay26 w V (k0_pay22 (BitVec.ofNat 32 (i 0).val) qe K) (k0_pay23 (BitVec.ofNat 32 (i 0).val) qe K) (k0_pay24 (BitVec.ofNat 32 (i 0).val) qe K)) (k0_pay27 w V (k0_pay22 (BitVec.ofNat 32 (i 0).val) qe K) (k0_pay23 (BitVec.ofNat 32 (i 0).val) qe K) (k0_pay24 (BitVec.ofNat 32 (i 0).val) qe K)) (k0_pay28 w V (k0_pay22 (BitVec.ofNat 32 (i 0).val) qe K) (k0_pay23 (BitVec.ofNat 32 (i 0).val) qe K) (k0_pay24 (BitVec.ofNat 32 (i 0).val) qe K)) (k0_pay29 w V (k0_pay22 (BitVec.ofNat 32 (i 0).val) qe K) (k0_pay23 (BitVec.ofNat 32 (i 0).val) qe K) (k0_pay24 (BitVec.ofNat 32 (i 0).val) qe K)) (k0_pay30 w V (k0_pay22 (BitVec.ofNat 32 (i 0).val) qe K) (k0_pay23 (BitVec.ofNat 32 (i 0).val) qe K) (k0_pay24 (BitVec.ofNat 32 (i 0).val) qe K)) (k0_pay31 w V (k0_pay22 (BitVec.ofNat 32 (i 0).val) qe K) (k0_pay23 (BitVec.ofNat 32 (i 0).val) qe K) (k0_pay24 (BitVec.ofNat 32 (i 0).val) qe K)) (k0_pay32 w) x2 x10 x11 x12

/-- The normalised rows over their lengths. -/
def units (i : grid0.Coords) (w : FVec F S256x8 .f32) (qe : FVec F S256x64 .f32) (K : Vec F S64x2048 .f32) (V : Vec F S2048x64 .f32) (x2 : Vec F S256x1024 .f32) (x10 : Vec F S512x1024 .f32) (x11 x12 : Vec F S1x1024 .f32) : FVec F S256x1024 .f32 :=
  k0_pay35 w (attn i qe K V) (k0_pay26 w V (k0_pay22 (BitVec.ofNat 32 (i 0).val) qe K) (k0_pay23 (BitVec.ofNat 32 (i 0).val) qe K) (k0_pay24 (BitVec.ofNat 32 (i 0).val) qe K)) (k0_pay27 w V (k0_pay22 (BitVec.ofNat 32 (i 0).val) qe K) (k0_pay23 (BitVec.ofNat 32 (i 0).val) qe K) (k0_pay24 (BitVec.ofNat 32 (i 0).val) qe K)) (k0_pay28 w V (k0_pay22 (BitVec.ofNat 32 (i 0).val) qe K) (k0_pay23 (BitVec.ofNat 32 (i 0).val) qe K) (k0_pay24 (BitVec.ofNat 32 (i 0).val) qe K)) (k0_pay29 w V (k0_pay22 (BitVec.ofNat 32 (i 0).val) qe K) (k0_pay23 (BitVec.ofNat 32 (i 0).val) qe K) (k0_pay24 (BitVec.ofNat 32 (i 0).val) qe K)) (k0_pay30 w V (k0_pay22 (BitVec.ofNat 32 (i 0).val) qe K) (k0_pay23 (BitVec.ofNat 32 (i 0).val) qe K) (k0_pay24 (BitVec.ofNat 32 (i 0).val) qe K)) (k0_pay31 w V (k0_pay22 (BitVec.ofNat 32 (i 0).val) qe K) (k0_pay23 (BitVec.ofNat 32 (i 0).val) qe K) (k0_pay24 (BitVec.ofNat 32 (i 0).val) qe K)) (k0_pay32 w) x2 x10 x11 x12

/-- The experts' mixture of the feed-forward half on top of the residual stream: from the residual stream `h1`, its
    normalised rows `h2`, these over their lengths `hn`, and the second gate's and the experts' parameters. -/
def moe (h1 h2 hn : FVec F S256x1024 .f32) (x13 : Vec F S1024x8 .f32) (x14 : Vec F S1x8 .f32) (x15 : Vec F S8x1024x256 .f32) (x16 : Vec F S8x256x1024 .f32) : FVec F S256x1024 .f32 :=
  k0_pay42 h1 h2 (k0_pay39 (k0_pay37 hn x13 x14) (k0_pay38 hn x13 x14) (Scalar.ofBits .f32 0#32))
    (k0_pay41 h2 (k0_pay39 (k0_pay37 hn x13 x14) (k0_pay38 hn x13 x14) (Scalar.ofBits .f32 0#32))
      (k0_pay40 h2 (k0_pay37 hn x13 x14) (k0_pay38 hn x13 x14) (Scalar.ofBits .f32 0#32) (pick x15 (Rect.unit (s := S8x1024x256) ![0, 0, 0] S1x1024x256.size inb_S8x1024x256_S1x1024x256_0_0_0).toLoadRect) (pick x16 (Rect.unit (s := S8x256x1024) ![0, 0, 0] S1x256x1024.size inb_S8x256x1024_S1x256x1024_0_0_0).toLoadRect) (pick x15 (Rect.unit (s := S8x1024x256) ![1, 0, 0] S1x1024x256.size inb_S8x1024x256_S1x1024x256_1_0_0).toLoadRect) (pick x16 (Rect.unit (s := S8x256x1024) ![1, 0, 0] S1x256x1024.size inb_S8x256x1024_S1x256x1024_1_0_0).toLoadRect))
      (pick x15 (Rect.unit (s := S8x1024x256) ![2, 0, 0] S1x1024x256.size inb_S8x1024x256_S1x1024x256_2_0_0).toLoadRect) (pick x16 (Rect.unit (s := S8x256x1024) ![2, 0, 0] S1x256x1024.size inb_S8x256x1024_S1x256x1024_2_0_0).toLoadRect) (pick x15 (Rect.unit (s := S8x1024x256) ![3, 0, 0] S1x1024x256.size inb_S8x1024x256_S1x1024x256_3_0_0).toLoadRect) (pick x16 (Rect.unit (s := S8x256x1024) ![3, 0, 0] S1x256x1024.size inb_S8x256x1024_S1x256x1024_3_0_0).toLoadRect) (pick x15 (Rect.unit (s := S8x1024x256) ![4, 0, 0] S1x1024x256.size inb_S8x1024x256_S1x1024x256_4_0_0).toLoadRect) (pick x16 (Rect.unit (s := S8x256x1024) ![4, 0, 0] S1x256x1024.size inb_S8x256x1024_S1x256x1024_4_0_0).toLoadRect))
    (pick x15 (Rect.unit (s := S8x1024x256) ![5, 0, 0] S1x1024x256.size inb_S8x1024x256_S1x1024x256_5_0_0).toLoadRect) (pick x16 (Rect.unit (s := S8x256x1024) ![5, 0, 0] S1x256x1024.size inb_S8x256x1024_S1x256x1024_5_0_0).toLoadRect) (pick x15 (Rect.unit (s := S8x1024x256) ![6, 0, 0] S1x1024x256.size inb_S8x1024x256_S1x1024x256_6_0_0).toLoadRect) (pick x16 (Rect.unit (s := S8x256x1024) ![6, 0, 0] S1x256x1024.size inb_S8x256x1024_S1x256x1024_6_0_0).toLoadRect) (pick x15 (Rect.unit (s := S8x1024x256) ![7, 0, 0] S1x1024x256.size inb_S8x1024x256_S1x1024x256_7_0_0).toLoadRect) (pick x16 (Rect.unit (s := S8x256x1024) ![7, 0, 0] S1x256x1024.size inb_S8x256x1024_S1x256x1024_7_0_0).toLoadRect)

/-- The block of the result, the scratch buffers holding the keys `K` and the values `V`. -/
def outBlock (i : grid0.Coords) (K : Vec F S64x2048 .f32) (V : Vec F S2048x64 .f32) (x0 : Vec F S256x1024 .f32) (x1 : Vec F S256x1 .f32) (x2 : Vec F S256x1024 .f32) (x3 : Vec F S1024x8 .f32) (x4 : Vec F S1x8 .f32) (x5 : Vec F S1024x512 .f32) (x8 x9 : Vec F S256x64 .f32) (x10 : Vec F S512x1024 .f32) (x11 x12 : Vec F S1x1024 .f32) (x13 : Vec F S1024x8 .f32) (x14 : Vec F S1x8 .f32) (x15 : Vec F S8x1024x256 .f32) (x16 : Vec F S8x256x1024 .f32) : FVec F S256x1024 .f32 :=
  moe (resid i (gateW x0 x1 x3 x4) (queriesRot x0 x1 x3 x4 x5 x8 x9) K V x2 x10) (normed i (gateW x0 x1 x3 x4) (queriesRot x0 x1 x3 x4 x5 x8 x9) K V x2 x10 x11 x12) (units i (gateW x0 x1 x3 x4) (queriesRot x0 x1 x3 x4 x5 x8 x9) K V x2 x10 x11 x12) x13 x14 x15 x16

/-- The rectangle of the keys a point stores. -/
abbrev keyRect (i : grid0.Coords) : Rect S64x2048 := Rect.unit (s := S64x2048) (k0_off1 i) S64x256.size (k0_off1_inb i)
/-- The rectangle of the values a point stores. -/
abbrev valRect (i : grid0.Coords) : Rect S2048x64 := Rect.unit (s := S2048x64) (k0_off2 i) S256x64.size (k0_off2_inb i)

/-- What a point does to the scratch buffers: its own block of keys becomes `kt` and its own block of values `vb`; the rest
    of the keys stays, and, except at the first point, so does the rest of the values. -/
structure Step (i : grid0.Coords) (kt : FVec F S64x256 .f32) (vb : FVec F S256x64 .f32) (K K' : Vec F S64x2048 .f32) (V V' : Vec F S2048x64 .f32) : Prop where
  key : ∀ p, K' ((keyRect i).emb p) = kt p
  keyKeep : ∀ x, x ∉ (keyRect i).set → K' x = K x
  val : ∀ p, V' ((valRect i).emb p) = vb p
  valKeep : ¬ cond0_0 i → ∀ x, x ∉ (valRect i).set → V' x = V x

/-- A buffer written once over all its extents reads the written array. -/
theorem read_writes_full {κ : Kind} {sp : Space} {s : Shape} {e : EltTy} (arg : Memref sig κ sp s e) (f : arg.view.ty.Contents (Elt F))
    {off : Fin s.rank → Nat} (h : off = fun _ => 0) (inb : ∀ a, off a + s.size a ≤ s.size a)
    (w : (Rect.unit (s := s) off s.size inb).shape.Idx → Elt F e) :
    arg.view.read (Elt F) (arg.view.writes (Elt F) f [⟨Rect.unit (s := s) off s.size inb, w⟩]) = w := by
  subst h
  funext y
  have h := View.read_writes_cons_emb (v := arg.view) (f := f) (Rect.unit (s := s) (fun _ => 0) s.size inb) w [] y
  have e : (Rect.unit (s := s) (fun _ => 0) s.size inb).emb y = y := Rect.emb_whole_apply _ y
  rwa [e] at h

/-- A load of all of a buffer that was first written whole and then once more reads what it holds, whatever it held before. -/
theorem readCov_whole [∀ e, Nonempty (Elt F e)] {κ : Kind} {sp : Space} {s : Shape} {e : EltTy} (arg : Memref sig κ sp s e)
    (f : arg.view.ty.Contents (Elt F)) (p : View.Piece (Elt F) s e) {off : Fin s.rank → Nat} (h : off = fun _ => 0)
    (inb inb' : ∀ a, off a + s.size a ≤ s.size a) (z : (Rect.unit (s := s) off s.size inb).shape.Idx → Elt F e) :
    arg.view.readCov [p, ⟨Rect.unit (s := s) off s.size inb, z⟩] (Rect.unit (s := s) off s.size inb').toLoadRect
      = arg.view.read (Elt F) (arg.view.writes (Elt F) f [p, ⟨Rect.unit (s := s) off s.size inb, z⟩]) := by
  subst h
  rw [← View.readAt_writes_of_cover arg.view f _ _ fun j => ⟨⟨_, z⟩, by simp, ?_⟩]
  · exact pick_whole _ rfl inb'
  · exact (Rect.unit (s := s) (fun _ => 0) s.size inb).toLoadRect.idx_mem j

/-- What the two scratch buffers hold after a point that writes its block of keys into the one, and its block of values
    over the writes `L` into the other, these being there at the first point only. -/
theorem step_of {κ κ' : Kind} {sp sp' : Space} (i : grid0.Coords) (kt : FVec F S64x256 .f32) (vb : FVec F S256x64 .f32)
    (K : Vec F S64x2048 .f32) (V : Vec F S2048x64 .f32) (arg19 : Memref sig κ sp S64x2048 .f32) (arg20 : Memref sig κ' sp' S2048x64 .f32)
    (f : arg19.view.ty.Contents (Elt F)) (g : arg20.view.ty.Contents (Elt F)) (hf : arg19.view.read (Elt F) f = K)
    (hg : arg20.view.read (Elt F) g = V) (L : List (View.Piece (Elt F) S2048x64 .f32)) (hL : cond0_0 i ∨ L = []) :
    Step i kt vb K (arg19.view.read (Elt F) (arg19.view.writes (Elt F) f [⟨keyRect i, kt⟩])) V
      (arg20.view.read (Elt F) (arg20.view.writes (Elt F) g (⟨valRect i, vb⟩ :: L))) where
  key p := View.read_writes_cons_emb _ _ _ _ _ p
  keyKeep x hx := by
    rw [← hf]
    exact View.read_slice_write_of_not_mem _ _ _ _ (by rwa [Rect.map_emb_univ])
  val p := View.read_writes_cons_emb _ _ _ _ _ p
  valKeep hc x hx := by
    rcases hL with h | rfl
    · exact absurd h hc
    · rw [← hg]
      exact View.read_slice_write_of_not_mem _ _ _ _ (by rwa [Rect.map_emb_univ])

end Cert.KernelIdeal.Gen
end
-- ==== Proof.Kern.Gate.lean ====
module

public import proofs.«01_k».proof.Proof.Body.Point
public import proofs.«01_k».proof.Proof.Spec.Gate
public import Idealize.ShloMosaic.Lib.Pointwise

/-! The kernel's gates over the extended reals: the weights that a block's rows get are the weights of their scores. -/

@[expose] public section

set_option maxRecDepth 16384

noncomputable section

namespace Cert.KernelIdeal.Gen

open Idealize.ShloMosaic Idealize.ShloMosaic.TcCoe Idealize.SL.Sem
open Cert.Spec
open scoped BigOperators

/-- The mask of a block of scores `L`. -/
def masksOf (L : FVec Ideal S256x8 .f32) : FVec Ideal S256x8 .f32 :=
  have v348 : IVec S256x8 32 := iota .tc S256x8 32 [1] iota_S256x8_d1_w32
  have v349 : FVec Ideal S256 .f32 := multiReduction .maximumf [1] S256 L 0xFF800000#32 reduces_S256x8_S256 (.inl rfl) rfl
  have v350 : FVec Ideal S256x1 .f32 := shapeCast S256x1 v349 shapeCasts_S256_S256x1
  have v351 : FVec Ideal S256x8 .f32 := broadcastTo S256x8 v350 broadcasts_S256x1_S256x8
  have v352 : IVec S256x8 1 := cmpf .oeq L v351
  have v353 : IVec S256x8 32 := broadcast S256x8 8#32
  have v354 : IVec S256x8 32 := select v352 v348 v353
  have v355 : IVec S256 32 := multiReductionI .minsi [1] S256 v354 2147483647#32 reduces_S256x8_S256 rfl
  have v356 : IVec S256x1 32 := shapeCast S256x1 v355 shapeCasts_S256_S256x1
  have v357 : IVec S256x8 32 := broadcastTo S256x8 v356 broadcasts_S256x1_S256x8
  have v358 : IVec S256x8 1 := cmpi .eq v348 v357
  have cst_81 : Ideal .f32 := Scalar.ofBits .f32 0xF149F2CA#32
  have v359 : FVec Ideal S256x8 .f32 := broadcast S256x8 cst_81
  have v360 : FVec Ideal S256x8 .f32 := select v358 v359 L
  have v361 : FVec Ideal S256 .f32 := multiReduction .maximumf [1] S256 v360 0xFF800000#32 reduces_S256x8_S256 (.inl rfl) rfl
  have v362 : FVec Ideal S256x1 .f32 := shapeCast S256x1 v361 shapeCasts_S256_S256x1
  have v363 : FVec Ideal S256x8 .f32 := broadcastTo S256x8 v362 broadcasts_S256x1_S256x8
  have v364 : IVec S256x8 1 := cmpf .oeq v360 v363
  have v365 : IVec S256x8 32 := broadcast S256x8 8#32
  have v366 : IVec S256x8 32 := select v364 v348 v365
  have v367 : IVec S256 32 := multiReductionI .minsi [1] S256 v366 2147483647#32 reduces_S256x8_S256 rfl
  have v368 : IVec S256x1 32 := shapeCast S256x1 v367 shapeCasts_S256_S256x1
  have v369 : IVec S256x8 32 := broadcastTo S256x8 v368 broadcasts_S256x1_S256x8
  have v370 : IVec S256x8 1 := cmpi .eq v348 v369
  have v371 : IVec S256x8 1 := ori v358 v370
  have v372 : IVec S256x8 32 := extui 32 v371 natLt_1_32
  have v373 : FVec Ideal S256x8 .f32 := sitofp .f32 v372
  have cst_85 : Ideal .f32 := Scalar.ofBits .f32 0x00000000#32
  have v374 : FVec Ideal S256x8 .f32 := broadcast S256x8 cst_85
  have v375 : IVec S256x8 1 := cmpf .ogt L v374
  have v376 : IVec S256x8 32 := extui 32 v375 natLt_1_32
  have v377 : FVec Ideal S256x8 .f32 := sitofp .f32 v376
  have cst_86 : Ideal .f32 := Scalar.ofBits .f32 0x00000000#32
  have v378 : FVec Ideal S256x1 .f32 := broadcast S256x1 cst_86
  have v379 : IVec S256x1 1 := cmpf .ole v350 v378
  have v380 : IVec S256x1 1 := shapeCast S256x1 v379 shapeCasts_S256x1_S256x1
  have v381 : IVec S256x8 1 := broadcastTo S256x8 v380 broadcasts_S256x1_S256x8
  have v382 : FVec Ideal S256x8 .f32 := select v381 v373 v377
  v382

/-- The attention's gate is the second gate's computation on its own scores. -/
theorem gateW_eq (x0 : Vec Ideal S256x1024 .f32) (x1 : Vec Ideal S256x1 .f32) (x3 : Vec Ideal S1024x8 .f32) (x4 : Vec Ideal S1x8 .f32) :
    gateW (F := Ideal) x0 x1 x3 x4
      = k0_pay39 (F := Ideal) (k0_pay3 x0 x1 x3 x4) (masksOf (k0_pay2 x0 x1 x3 x4)) (Scalar.ofBits .f32 0#32) := rfl

/-- The second gate chooses its experts as the first does. -/
theorem pay38_eq (hn : FVec Ideal S256x1024 .f32) (x13 : Vec Ideal S1024x8 .f32) (x14 : Vec Ideal S1x8 .f32) :
    k0_pay38 (F := Ideal) hn x13 x14 = masksOf (k0_pay36 hn x13 x14) := rfl

/-- A choice by a bit that a condition gives. -/
theorem select_bool (p : Prop) [Decidable p] (x y : EReal) :
    Scalar.select (α := Idealize.ShloMosaic.Ideal .f32) (BitVec.ofBool (decide p)) x y = @ite EReal p _ x y := by
  by_cases h : p <;> simp [h, Scalar.select]

/-- What the fill of the masked scores denotes. -/
theorem named_mask : Named.named (F := Ideal) (φ := .f32) κ "mask" 3463342888#32 = (⊥ : EReal) := rfl

/-- The word 1 as a float, -/
theorem sitofp_one : FloatOps.sitofp (F := Idealize.ShloMosaic.Ideal) .f32 1#32 = (1 : EReal) := by
  show (((1#32 : BitVec 32).toInt : ℝ) : EReal) = 1
  norm_num
/-- and the word 0. -/
theorem sitofp_zero : FloatOps.sitofp (F := Idealize.ShloMosaic.Ideal) .f32 0#32 = (0 : EReal) := by
  show (((0#32 : BitVec 32).toInt : ℝ) : EReal) = 0
  norm_num

/-- A condition's bit, widened and converted. -/
theorem word_bit (p : Prop) [Decidable p] :
    FloatOps.sitofp (F := Idealize.ShloMosaic.Ideal) .f32 (BitVec.setWidth 32 (BitVec.ofBool (decide p))) = bit p := by
  by_cases h : p
  · rw [bit, if_pos h, decide_eq_true h]; exact sitofp_one
  · rw [bit, if_neg h, decide_eq_false h]; exact sitofp_zero

/-- The same of either of two conditions. -/
theorem word_or (p q : Prop) [Decidable p] [Decidable q] :
    FloatOps.sitofp (F := Idealize.ShloMosaic.Ideal) .f32
      (BitVec.setWidth 32 (IntOp.ori (BitVec.ofBool (decide p)) (BitVec.ofBool (decide q)))) = bit (p ∨ q) := by
  have e : IntOp.ori (BitVec.ofBool (decide p)) (BitVec.ofBool (decide q)) = BitVec.ofBool (decide (p ∨ q)) := by
    by_cases hp : p <;> by_cases hq : q <;> simp [hp, hq, IntOp.ori]
  rw [e]; exact word_bit _

/-- A block's mask is one at the chosen experts of the row's scores, zero at the rest. -/
theorem masksOf_apply (L : FVec Ideal S256x8 .f32) (r : Fin 256) (h : Above fun e => L (ix2 r e)) (e : Fin 8) :
    masksOf L (ix2 r e) = bit (chosen (fun e => L (ix2 r e)) e) := by
  pointwise [masksOf]
  have hM : Finset.univ.fold max ⊥ (fun x => L (ix2 r x)) = L (ix2 r (first fun x => L (ix2 r x))) := (first_spec _).fold
  simp only [ofBits_neg_inf, position_first (fun x => L (ix2 r x)), cmpi_position, select_bool]
  have hp := @position_first (rest fun x => L (ix2 r x))
  unfold rest at hp
  simp only [hp]
  rw [hM]
  have hs : first (fun x => if x = first (fun x => L (ix2 r x)) then Ideal.ofBits FTy.f32 4048155338#32 else L (ix2 r x))
      = second fun x => L (ix2 r x) := rfl
  rw [hs, cmpi_position, chosen]
  by_cases h0 : L (ix2 r (first fun x => L (ix2 r x))) ≤ 0
  · rw [if_pos h0, if_pos h0]; exact word_or _ _
  · rw [if_neg h0, if_neg h0]; exact word_bit _

/-- The weights, from the gated scores and the mask. -/
theorem pay39_apply (G M : FVec Ideal S256x8 .f32) (r : Fin 256) (z : Fin 8 → EReal) (hG : ∀ x, G (ix2 r x) = max (z x) 0)
    (hM : ∀ x, M (ix2 r x) = bit (chosen z x)) (e : Fin 8) :
    k0_pay39 (F := Ideal) G M (Scalar.ofBits .f32 0#32) (ix2 r e) = weight z e := by
  pointwise [k0_pay39]
  have hg : ∀ x (d : Decidable (0 < M (ix2 r x))), @ite _ _ d (G (ix2 r x)) (Named.named κ "mask" 3463342888#32) = gated z x := by
    intro x d
    by_cases hc : chosen z x
    · have h0 : 0 < M (ix2 r x) := by rw [hM, bit, if_pos hc]; exact zero_lt_one
      rw [if_pos h0, hG, gated, if_pos hc]
    · have h0 : ¬ 0 < M (ix2 r x) := by rw [hM, bit, if_neg hc]; exact lt_irrefl _
      rw [if_neg h0, gated, if_neg hc]; exact named_mask
  simp only [hg]
  simp only [ofBits_neg_inf, hM]
  rfl

end Cert.KernelIdeal.Gen
end
-- ==== Proof.Kern.Rows.lean ====
module

public import proofs.«01_k».proof.Proof.Kern.Gate
public import proofs.«01_k».proof.Proof.Spec.Model

/-! The first half of the kernel's block over the extended reals, row by row: the gate's weights and the mixed projections. -/

@[expose] public section

set_option maxRecDepth 16384

noncomputable section

namespace Cert.KernelIdeal.Gen

open Idealize.ShloMosaic Idealize.ShloMosaic.TcCoe Idealize.SL.Sem
open Cert.Spec
open scoped BigOperators

/-- The rows as they are read. -/
theorem pay1_eq (x0 : Vec Ideal S256x1024 .f32) (r : Fin 256) (c : Fin 1024) : k0_pay1 (F := Ideal) x0 (ix2 r c) = x0 (ix2 r c) := by
  pointwise [k0_pay1]

/-- The block's scores are the scores of its rows. -/
theorem scores_apply (x0 : Vec Ideal S256x1024 .f32) (x1 : Vec Ideal S256x1 .f32) (x3 : Vec Ideal S1024x8 .f32) (x4 : Vec Ideal S1x8 .f32)
    (S : Fin 1024 → Fin 8 → EReal) (g : Fin 8 → EReal) (r : Fin 256) (h1 : x1 (ix2 r 0) = length fun k => x0 (ix2 r k))
    (h3 : ∀ k e, x3 (ix2 k e) = Ideal.div (S k e) (length fun j => S j e)) (h4 : ∀ e, x4 (ix2 0 e) = sigmoid (g e)) (e : Fin 8) :
    k0_pay2 (F := Ideal) x0 x1 x3 x4 (ix2 r e) = logit (fun k => x0 (ix2 r k)) S g e := by
  pointwise [k0_pay2]
  simp only [pay1_eq, h1, h3, h4]
  rfl

/-- The logits of a row, and 0 in place of the negative ones. -/
theorem relu_apply (x0 : Vec Ideal S256x1024 .f32) (x1 : Vec Ideal S256x1 .f32) (x3 : Vec Ideal S1024x8 .f32) (x4 : Vec Ideal S1x8 .f32)
    (r : Fin 256) (e : Fin 8) : k0_pay3 (F := Ideal) x0 x1 x3 x4 (ix2 r e) = max (k0_pay2 (F := Ideal) x0 x1 x3 x4 (ix2 r e)) 0 := by
  pointwise [k0_pay3]

/-- The block's weights are the weights of its rows. -/
theorem gateW_apply (x0 : Vec Ideal S256x1024 .f32) (x1 : Vec Ideal S256x1 .f32) (x3 : Vec Ideal S1024x8 .f32) (x4 : Vec Ideal S1x8 .f32)
    (S : Fin 1024 → Fin 8 → EReal) (g : Fin 8 → EReal) (r : Fin 256) (h1 : x1 (ix2 r 0) = length fun k => x0 (ix2 r k))
    (h3 : ∀ k e, x3 (ix2 k e) = Ideal.div (S k e) (length fun j => S j e)) (h4 : ∀ e, x4 (ix2 0 e) = sigmoid (g e)) (e : Fin 8) :
    gateW (F := Ideal) x0 x1 x3 x4 (ix2 r e) = gate (fun k => x0 (ix2 r k)) S g e := by
  have hL : (fun e => k0_pay2 (F := Ideal) x0 x1 x3 x4 (ix2 r e)) = logit (fun k => x0 (ix2 r k)) S g :=
    funext fun e => scores_apply x0 x1 x3 x4 S g r h1 h3 h4 e
  rw [gateW_eq]
  refine pay39_apply _ _ r (logit (fun k => x0 (ix2 r k)) S g) (fun x => ?_) (fun x => ?_) e
  · rw [relu_apply, scores_apply x0 x1 x3 x4 S g r h1 h3 h4 x]
  · rw [masksOf_apply _ r (hL ▸ above_logit _ S g) x, hL]

/-- The column of the flattened projections that holds the head column `d` of the expert `e`. -/
def col (e : Fin 8) (d : Fin 64) : Fin 512 := ⟨64 * e.val + d.val, by omega⟩

/-- The columns of an expert's projection among all the columns: expert 0, -/
theorem col_0 (d : Fin 64) : col 0 d = ⟨d.val, by omega⟩ := Fin.ext (Nat.zero_add d.val)
/-- expert 1, -/
theorem col_1 (d : Fin 64) : col 1 d = ⟨64 + d.val, by omega⟩ := rfl
/-- expert 2, -/
theorem col_2 (d : Fin 64) : col 2 d = ⟨128 + d.val, by omega⟩ := rfl
/-- expert 3, -/
theorem col_3 (d : Fin 64) : col 3 d = ⟨192 + d.val, by omega⟩ := rfl
/-- expert 4, -/
theorem col_4 (d : Fin 64) : col 4 d = ⟨256 + d.val, by omega⟩ := rfl
/-- expert 5, -/
theorem col_5 (d : Fin 64) : col 5 d = ⟨320 + d.val, by omega⟩ := rfl
/-- expert 6, -/
theorem col_6 (d : Fin 64) : col 6 d = ⟨384 + d.val, by omega⟩ := rfl
/-- expert 7. -/
theorem col_7 (d : Fin 64) : col 7 d = ⟨448 + d.val, by omega⟩ := rfl

/-- The eight experts' projections, cut from one product and mixed. -/
theorem mixed_of (h : Fin 1024 → EReal) (x : Vec Ideal S1024x512 .f32) (W : Fin 8 → Fin 1024 → Fin 64 → EReal)
    (hW : ∀ e c d, x (ix2 c (col e d)) = W e c d) (w : Fin 8 → EReal) (d : Fin 64) :
    mix w h W d = ∑ e, (∑ c, h c * x (ix2 c (col e d))) * w e := by
  unfold mix
  refine Finset.sum_congr rfl fun e _ => ?_
  rw [mul_comm]
  simp only [hW]

/-- The values of a row: its projections mixed by the gate. -/
theorem values_mix (v1 : FVec Ideal S256x1024 .f32) (w : FVec Ideal S256x8 .f32) (x : Vec Ideal S1024x512 .f32) (W : Fin 8 → Fin 1024 → Fin 64 → EReal)
    (hW : ∀ e c d, x (ix2 c (col e d)) = W e c d) (r : Fin 256) (d : Fin 64) :
    k0_pay13 (F := Ideal) v1 w x (ix2 r d) = mix (fun e => w (ix2 r e)) (fun c => v1 (ix2 r c)) W d := by
  rw [mixed_of _ x W hW, Fin.sum_univ_eight]
  simp only [col_0, col_1, col_2, col_3, col_4, col_5, col_6, col_7]
  pointwise [k0_pay13]

/-- The keys before they are turned: the same of their projections. -/
theorem keys_mix (v1 : FVec Ideal S256x1024 .f32) (w : FVec Ideal S256x8 .f32) (x : Vec Ideal S1024x512 .f32) (W : Fin 8 → Fin 1024 → Fin 64 → EReal)
    (hW : ∀ e c d, x (ix2 c (col e d)) = W e c d) (r : Fin 256) (d : Fin 64) :
    k0_pay12 (F := Ideal) v1 w x (ix2 r d) = mix (fun e => w (ix2 r e)) (fun c => v1 (ix2 r c)) W d := by
  rw [mixed_of _ x W hW, Fin.sum_univ_eight]
  simp only [col_0, col_1, col_2, col_3, col_4, col_5, col_6, col_7]
  pointwise [k0_pay12]

/-- An array that is passed on as it is read: the keys, -/
theorem pay19_eq (x0 : FVec Ideal S256x64 .f32) (r : Fin 256) (c : Fin 64) : k0_pay19 (F := Ideal) x0 (ix2 r c) = x0 (ix2 r c) := by
  pointwise [k0_pay19]
/-- the cosines, -/
theorem pay14_eq (x0 : Vec Ideal S256x64 .f32) (r : Fin 256) (c : Fin 64) : k0_pay14 (F := Ideal) x0 (ix2 r c) = x0 (ix2 r c) := by
  pointwise [k0_pay14]
/-- the sines. -/
theorem pay15_eq (x0 : Vec Ideal S256x64 .f32) (r : Fin 256) (c : Fin 64) : k0_pay15 (F := Ideal) x0 (ix2 r c) = x0 (ix2 r c) := by
  pointwise [k0_pay15]

/-- The queries before they are turned, from the blocks as they are read. -/
theorem queries_mix (x0 : Vec Ideal S256x1024 .f32) (x1 : Vec Ideal S256x1 .f32) (x3 : Vec Ideal S1024x8 .f32) (x4 : Vec Ideal S1x8 .f32)
    (x : Vec Ideal S1024x512 .f32) (W : Fin 8 → Fin 1024 → Fin 64 → EReal)
    (hW : ∀ e c d, x (ix2 c (col e d)) = W e c d) (r : Fin 256) (d : Fin 64) :
    queries (F := Ideal) x0 x1 x3 x4 x (ix2 r d) = mix (fun e => gateW (F := Ideal) x0 x1 x3 x4 (ix2 r e)) (fun c => x0 (ix2 r c)) W d := by
  rw [mixed_of _ x W hW, Fin.sum_univ_eight]
  simp only [col_0, col_1, col_2, col_3, col_4, col_5, col_6, col_7]
  have e6 : ∀ e, k0_pay6 (F := Ideal) (k0_pay2 x0 x1 x3 x4) (k0_pay3 x0 x1 x3 x4) (k0_pay4 x0 x1 x3 x4) (k0_pay5 x0 x1 x3 x4) 0 (ix2 r e) = gateW (F := Ideal) x0 x1 x3 x4 (ix2 r e) := fun e => by
    unfold gateW; rw [show Scalar.ofBits (F := Ideal) .f32 0#32 = (0 : EReal) from Ideal.ofBits_zero_f32]
  have e7 : ∀ j, k0_pay7 (F := Ideal) (k0_pay1 x0) x (ix2 r j) = ∑ c, x0 (ix2 r c) * x (ix2 c j) := fun j => by
    pointwise [k0_pay7]
    simp only [pay1_eq]
  pointwise [queries, k0_pay11, k0_pay8, k0_pay9, k0_pay10]
  simp only [e6, e7, pay1_eq]

/-- The rotation of a block. -/
theorem rope_apply (q : FVec Ideal S256x64 .f32) (x8 x9 : Vec Ideal S256x64 .f32) (r : Fin 256) (d : Fin 64) :
    k0_pay16 (F := Ideal) q x8 x9 (ix2 r d) = rope (fun d => q (ix2 r d)) (fun d => x8 (ix2 r d)) (fun d => x9 (ix2 r d)) d := by
  pointwise [k0_pay16]
  simp only [rope, pay14_eq, pay15_eq, zero_sub]

/-- The turned keys, transposed. -/
theorem ropeT_apply (q x8 x9 : FVec Ideal S256x64 .f32) (r : Fin 256) (d : Fin 64) :
    k0_pay18 (F := Ideal) q x8 x9 (ix2 d r) = rope (fun d => q (ix2 r d)) (fun d => x8 (ix2 r d)) (fun d => x9 (ix2 r d)) d := by
  pointwise [k0_pay18]
  simp only [rope, zero_sub]

end Cert.KernelIdeal.Gen
end
-- ==== Proof.Kern.Attn.lean ====
module

public import proofs.«01_k».proof.Proof.Kern.Rows
public import Idealize.ShloMosaic.Lib.WordCmp

/-! The kernel's attention over the extended reals: a row of a block is the softmax row of the scores that the scratch
buffers' keys give, over the scratch buffers' values. -/

@[expose] public section

set_option maxRecDepth 16384

noncomputable section

namespace Cert.KernelIdeal.Gen

open Idealize.ShloMosaic Idealize.ShloMosaic.TcCoe Idealize.SL.Sem
open Cert.Spec
open scoped BigOperators

/-- The comparison that masks: the position against the block's first row and the row in the block. -/
theorem causal (a r j : Nat) (ha : a < 8) (hr : r < 256) (hj : j < 2048) :
    IntOp.cmpi .sle (BitVec.ofNat 32 j) (IntOp.addi (Scalar.muli (BitVec.ofNat 32 a) 256#32) (BitVec.ofNat 32 r))
      = BitVec.ofBool (decide (j ≤ 256 * a + r)) := by
  have e : IntOp.addi (Scalar.muli (BitVec.ofNat 32 a) 256#32) (BitVec.ofNat 32 r) = BitVec.ofNat 32 (256 * a + r) := by
    show BitVec.ofNat 32 a * 256#32 + BitVec.ofNat 32 r = _
    rw [show (256#32 : BitVec 32) = BitVec.ofNat 32 256 from rfl, ← BitVec.ofNat_mul, ← BitVec.ofNat_add, Nat.mul_comm]
  rw [e]
  exact WordCmp.cmpi_sle_ofNat (by omega) (by omega)

/-- The block's scores over all the keys, masked above the diagonal. -/
theorem masked_apply (a : Nat) (ha : a < 8) (qe : FVec Ideal S256x64 .f32) (K : Vec Ideal S64x2048 .f32) (r : Fin 256) (n : Fin 2048)
    (hn : n.val = 256 * a + r.val) (j : Fin 2048) :
    k0_pay20 (F := Ideal) (BitVec.ofNat 32 a) qe K (ix2 r j)
      = score (fun d => qe (ix2 r d)) (fun j d => K (ix2 d j)) n j := by
  pointwise [k0_pay20]
  rw [causal a r.val j.val ha r.isLt j.isLt, select_bool, named_mask]
  unfold score
  have e : (j.val ≤ 256 * a + r.val) = (j ≤ n) := by rw [← hn]; rfl
  simp only [e, show (1040187392#32 : BitVec 32) = 0x3E000000#32 from rfl, ofBits_eighth]

/-- The first half of a row's scores, -/
theorem pay21_apply (a : BitVec 32) (qe : FVec Ideal S256x64 .f32) (K : Vec Ideal S64x2048 .f32) (r : Fin 256) (x : Fin 1024) :
    k0_pay21 (F := Ideal) a qe K (ix2 r x) = k0_pay20 (F := Ideal) a qe K (ix2 r (lo x)) := by
  pointwise [k0_pay21]
  rfl
/-- the second half, -/
theorem pay22_apply (a : BitVec 32) (qe : FVec Ideal S256x64 .f32) (K : Vec Ideal S64x2048 .f32) (r : Fin 256) (x : Fin 1024) :
    k0_pay22 (F := Ideal) a qe K (ix2 r x) = k0_pay20 (F := Ideal) a qe K (ix2 r (hi x)) := by
  pointwise [k0_pay22]
  rfl
/-- the greatest score of the first half, -/
theorem pay23_apply (a : BitVec 32) (qe : FVec Ideal S256x64 .f32) (K : Vec Ideal S64x2048 .f32) (r : Fin 256) :
    k0_pay23 (F := Ideal) a qe K (ix2 r 0) = Finset.univ.fold max ⊥ fun x => k0_pay20 (F := Ideal) a qe K (ix2 r (lo x)) := by
  pointwise [k0_pay23]
  simp only [pay21_apply, ofBits_neg_inf]
/-- and the first half's scores less it. -/
theorem pay24_apply (a : BitVec 32) (qe : FVec Ideal S256x64 .f32) (K : Vec Ideal S64x2048 .f32) (r : Fin 256) (x : Fin 1024) :
    k0_pay24 (F := Ideal) a qe K (ix2 r x)
      = k0_pay20 (F := Ideal) a qe K (ix2 r (lo x)) - k0_pay23 (F := Ideal) a qe K (ix2 r 0) := by
  pointwise [k0_pay24]
  simp only [pay21_apply]

/-- The correction between the two maxima: 0 where they agree is their difference all the same. -/
theorem exp_corr {m1 m2 : EReal} (d : Decidable (m1 = m2)) (h : IsReal m1) :
    Ideal.exp (@ite EReal (m1 = m2) d 0 (m1 - m2)) = Ideal.exp (m1 - m2) := by
  by_cases e : m1 = m2
  · rw [if_pos e]; obtain ⟨r, rfl⟩ := h; subst e; rw [← EReal.coe_sub, sub_self, EReal.coe_zero]
  · rw [if_neg e]

/-- A row of the attention. -/
theorem attn_apply (i : grid0.Coords) (qe : FVec Ideal S256x64 .f32) (K : Vec Ideal S64x2048 .f32) (V : Vec Ideal S2048x64 .f32)
    (r : Fin 256) (n : Fin 2048) (hn : n.val = 256 * (i 0).val + r.val)
    (hs : ∀ j, score (fun d => qe (ix2 r d)) (fun j d => K (ix2 d j)) n j ≠ ⊤)
    (hr : IsReal (score (fun d => qe (ix2 r d)) (fun j d => K (ix2 d j)) n 0)) (d : Fin 64) :
    attn (F := Ideal) i qe K V (ix2 r d)
      = softRow (score (fun d => qe (ix2 r d)) (fun j d => K (ix2 d j)) n) (fun j => V (ix2 j d)) := by
  have ha : (i 0).val < 8 := (i 0).isLt
  have hm : ∀ j, k0_pay20 (F := Ideal) (BitVec.ofNat 32 (i 0).val) qe K (ix2 r j)
      = score (fun d => qe (ix2 r d)) (fun j d => K (ix2 d j)) n j := masked_apply _ ha qe K r n hn
  unfold attn
  pointwise [k0_pay25]
  simp only [pay22_apply, pay23_apply, pay24_apply, hm, ofBits_neg_inf]
  exact flash (score (fun d => qe (ix2 r d)) (fun j d => K (ix2 d j)) n) (fun j => V (ix2 j d)) hs hr _ _ _ rfl rfl
    (exp_corr _ (isReal_fold_max _ (fun x => hs _) 0 hr))

end Cert.KernelIdeal.Gen
end
-- ==== Proof.Kern.Ffn.lean ====
module

public import proofs.«01_k».proof.Proof.Kern.Rows

/-! The second half of the kernel's block over the extended reals, row by row: the residual sum after the attention, its
normalisation, the second gate and the experts. -/

@[expose] public section

set_option maxRecDepth 16384

noncomputable section

namespace Cert.KernelIdeal.Gen

open Idealize.ShloMosaic Idealize.ShloMosaic.TcCoe Idealize.SL.Sem
open Cert.Spec
open scoped BigOperators

theorem pay26_apply (w : FVec Ideal S256x8 .f32) (V : Vec Ideal S2048x64 .f32) (a : FVec Ideal S256x1024 .f32) (b : FVec Ideal S256x1 .f32)
    (c : FVec Ideal S256x1024 .f32) (r : Fin 256) (d : Fin 64) :
    k0_pay26 (F := Ideal) w V a b c (ix2 r d) = k0_pay25 V a b c (ix2 r d) * w (ix2 r 0) := by
  pointwise [k0_pay26]

theorem pay27_apply (w : FVec Ideal S256x8 .f32) (V : Vec Ideal S2048x64 .f32) (a : FVec Ideal S256x1024 .f32) (b : FVec Ideal S256x1 .f32)
    (c : FVec Ideal S256x1024 .f32) (r : Fin 256) (d : Fin 64) :
    k0_pay27 (F := Ideal) w V a b c (ix2 r d) = k0_pay25 V a b c (ix2 r d) * w (ix2 r 1) := by
  pointwise [k0_pay27]

theorem pay28_apply (w : FVec Ideal S256x8 .f32) (V : Vec Ideal S2048x64 .f32) (a : FVec Ideal S256x1024 .f32) (b : FVec Ideal S256x1 .f32)
    (c : FVec Ideal S256x1024 .f32) (r : Fin 256) (d : Fin 64) :
    k0_pay28 (F := Ideal) w V a b c (ix2 r d) = k0_pay25 V a b c (ix2 r d) * w (ix2 r 2) := by
  pointwise [k0_pay28]

theorem pay29_apply (w : FVec Ideal S256x8 .f32) (V : Vec Ideal S2048x64 .f32) (a : FVec Ideal S256x1024 .f32) (b : FVec Ideal S256x1 .f32)
    (c : FVec Ideal S256x1024 .f32) (r : Fin 256) (d : Fin 64) :
    k0_pay29 (F := Ideal) w V a b c (ix2 r d) = k0_pay25 V a b c (ix2 r d) * w (ix2 r 3) := by
  pointwise [k0_pay29]

theorem pay30_apply (w : FVec Ideal S256x8 .f32) (V : Vec Ideal S2048x64 .f32) (a : FVec Ideal S256x1024 .f32) (b : FVec Ideal S256x1 .f32)
    (c : FVec Ideal S256x1024 .f32) (r : Fin 256) (d : Fin 64) :
    k0_pay30 (F := Ideal) w V a b c (ix2 r d) = k0_pay25 V a b c (ix2 r d) * w (ix2 r 4) := by
  pointwise [k0_pay30]

theorem pay31_apply (w : FVec Ideal S256x8 .f32) (V : Vec Ideal S2048x64 .f32) (a : FVec Ideal S256x1024 .f32) (b : FVec Ideal S256x1 .f32)
    (c : FVec Ideal S256x1024 .f32) (r : Fin 256) (d : Fin 64) :
    k0_pay31 (F := Ideal) w V a b c (ix2 r d) = k0_pay25 V a b c (ix2 r d) * w (ix2 r 5) := by
  pointwise [k0_pay31]

theorem pay32_apply (w : FVec Ideal S256x8 .f32) (r : Fin 256) : k0_pay32 (F := Ideal) w (ix2 r 0) = w (ix2 r 6) := by
  pointwise [k0_pay32]

set_option maxHeartbeats 2000000 in
/-- The residual sum after the attention, row by row. -/
theorem resid_apply (i : grid0.Coords) (w : FVec Ideal S256x8 .f32) (qe : FVec Ideal S256x64 .f32) (K : Vec Ideal S64x2048 .f32)
    (V : Vec Ideal S2048x64 .f32) (x2 : Vec Ideal S256x1024 .f32) (x10 : Vec Ideal S512x1024 .f32)
    (Wo : Fin 8 → Fin 64 → Fin 1024 → EReal) (hWo : ∀ e d c, x10 (ix2 (col e d) c) = Wo e d c) (r : Fin 256) (c : Fin 1024) :
    resid (F := Ideal) i w qe K V x2 x10 (ix2 r c)
      = afterAttn (fun c => x2 (ix2 r c)) (fun d => attn (F := Ideal) i qe K V (ix2 r d)) (fun e => w (ix2 r e)) Wo c := by
  unfold resid
  pointwise [k0_pay33]
  rw [Fin.sum_univ_tiles 8 64 rfl]
  refine congrArg (x2 (ix2 r c) + ·) (Finset.sum_congr rfl fun j _ => Finset.sum_congr rfl fun d _ => ?_)
  have hx : ∀ h, x10 (ix2 ⟨j.val * 64 + d.val, h⟩ c) = Wo j d c := fun h => by
    rw [← hWo]; exact congrArg (fun k => x10 (ix2 k c)) (Fin.ext (by simp only [col]; omega))
  rw [hx]
  refine congrArg (· * Wo j d c) ?_
  have ha : ∀ (k : Fin 8) (hk : k = j) (x : Fin 64) (hx : x = d),
      attn (F := Ideal) i qe K V (ix2 r x) * w (ix2 r k) = attn (F := Ideal) i qe K V (ix2 r d) * w (ix2 r j) := by
    rintro k rfl x rfl; rfl
  simp only [pay26_apply, pay27_apply, pay28_apply, pay29_apply, pay30_apply, pay31_apply, pay32_apply]
  split_ifs <;> exact ha _ (Fin.ext (by simp only [Fin.val_zero, Fin.val_one, Fin.val_ofNat, Nat.reduceMod] at *; omega)) _ (Fin.ext (by simp only at *; omega))

end Cert.KernelIdeal.Gen
end
-- ==== Proof.Kern.Moe.lean ====
module

public import proofs.«01_k».proof.Proof.Kern.Ffn
public import proofs.«01_k».proof.Proof.Kern.Attn

/-! The normalised rows after the attention, the second gate and the feed-forward experts of the kernel's block over the
extended reals, and with them the whole block. -/

@[expose] public section

set_option maxRecDepth 16384

noncomputable section

namespace Cert.KernelIdeal.Gen

open Idealize.ShloMosaic Idealize.ShloMosaic.TcCoe Idealize.SL.Sem
open Cert.Spec
open scoped BigOperators

/-- The rows after the attention, normalised. -/
theorem pay34_apply (a0 : FVec Ideal S256x8 .f32) (a1 a2 a3 a4 a5 a6 a7 : FVec Ideal S256x64 .f32) (a8 : FVec Ideal S256x1 .f32) (a9 : Vec Ideal S256x1024 .f32) (a10 : Vec Ideal S512x1024 .f32)
    (x11 x12 : Vec Ideal S1x1024 .f32) (r : Fin 256) (c : Fin 1024) :
    k0_pay34 (F := Ideal) a0 a1 a2 a3 a4 a5 a6 a7 a8 a9 a10 x11 x12 (ix2 r c)
      = norm (fun c => k0_pay33 (F := Ideal) a0 a1 a2 a3 a4 a5 a6 a7 a8 a9 a10 (ix2 r c)) (fun c => x11 (ix2 0 c)) (fun c => x12 (ix2 0 c)) c := by
  pointwise [k0_pay34]
  rfl

/-- The normalised rows over their lengths. -/
theorem pay35_apply (a0 : FVec Ideal S256x8 .f32) (a1 a2 a3 a4 a5 a6 a7 : FVec Ideal S256x64 .f32) (a8 : FVec Ideal S256x1 .f32) (a9 : Vec Ideal S256x1024 .f32) (a10 : Vec Ideal S512x1024 .f32)
    (x11 x12 : Vec Ideal S1x1024 .f32) (r : Fin 256) (c : Fin 1024) :
    k0_pay35 (F := Ideal) a0 a1 a2 a3 a4 a5 a6 a7 a8 a9 a10 x11 x12 (ix2 r c)
      = Ideal.div (k0_pay34 (F := Ideal) a0 a1 a2 a3 a4 a5 a6 a7 a8 a9 a10 x11 x12 (ix2 r c))
          (length fun c => k0_pay34 (F := Ideal) a0 a1 a2 a3 a4 a5 a6 a7 a8 a9 a10 x11 x12 (ix2 r c)) := by
  pointwise [k0_pay35]
  rfl

/-- The second gate's scores of a row. -/
theorem pay36_apply (hn : FVec Ideal S256x1024 .f32) (x13 : Vec Ideal S1024x8 .f32) (x14 : Vec Ideal S1x8 .f32) (x : Fin 1024 → EReal)
    (S : Fin 1024 → Fin 8 → EReal) (g : Fin 8 → EReal) (r : Fin 256) (hx : ∀ c, hn (ix2 r c) = Ideal.div (x c) (length x))
    (h13 : ∀ k e, x13 (ix2 k e) = Ideal.div (S k e) (length fun j => S j e)) (h14 : ∀ e, x14 (ix2 0 e) = sigmoid (g e)) (e : Fin 8) :
    k0_pay36 (F := Ideal) hn x13 x14 (ix2 r e) = logit x S g e := by
  pointwise [k0_pay36]
  simp only [hx, h13, h14]
  rfl

/-- The second gate's logits, 0 in place of the negative ones. -/
theorem pay37_apply (hn : FVec Ideal S256x1024 .f32) (x13 : Vec Ideal S1024x8 .f32) (x14 : Vec Ideal S1x8 .f32) (r : Fin 256) (e : Fin 8) :
    k0_pay37 (F := Ideal) hn x13 x14 (ix2 r e) = max (k0_pay36 (F := Ideal) hn x13 x14 (ix2 r e)) 0 := by
  pointwise [k0_pay37]

/-- The second gate's weights of a row. -/
theorem gate2_apply (hn : FVec Ideal S256x1024 .f32) (x13 : Vec Ideal S1024x8 .f32) (x14 : Vec Ideal S1x8 .f32) (x : Fin 1024 → EReal)
    (S : Fin 1024 → Fin 8 → EReal) (g : Fin 8 → EReal) (r : Fin 256) (hx : ∀ c, hn (ix2 r c) = Ideal.div (x c) (length x))
    (h13 : ∀ k e, x13 (ix2 k e) = Ideal.div (S k e) (length fun j => S j e)) (h14 : ∀ e, x14 (ix2 0 e) = sigmoid (g e)) (e : Fin 8) :
    k0_pay39 (F := Ideal) (k0_pay37 hn x13 x14) (k0_pay38 hn x13 x14) (Scalar.ofBits .f32 0#32) (ix2 r e) = gate x S g e := by
  have hL : (fun e => k0_pay36 (F := Ideal) hn x13 x14 (ix2 r e)) = logit x S g :=
    funext fun e => pay36_apply hn x13 x14 x S g r hx h13 h14 e
  refine pay39_apply _ _ r (logit x S g) (fun x => ?_) (fun x => ?_) e
  · rw [pay37_apply, ← hL]
  · rw [pay38_eq, masksOf_apply _ r (hL ▸ above_logit _ S g) x, hL]

/-- One feed-forward expert of a row. -/
def expert (x : Fin 1024 → EReal) (w : EReal) (u : Vec Ideal S1x1024x256 .f32) (v : Vec Ideal S1x256x1024 .f32) (c : Fin 1024) : EReal :=
  ∑ i : Fin 256, (silu (∑ k, x k * u (ix3 0 k i)) * w) * v (ix3 0 i c)

/-- The first experts' share. -/
theorem pay40_apply (h2 : FVec Ideal S256x1024 .f32) (G M : FVec Ideal S256x8 .f32) (z : EReal) (u0 : Vec Ideal S1x1024x256 .f32)
    (v0 : Vec Ideal S1x256x1024 .f32) (u1 : Vec Ideal S1x1024x256 .f32) (v1 : Vec Ideal S1x256x1024 .f32) (r : Fin 256) (c : Fin 1024) :
    k0_pay40 (F := Ideal) h2 G M z u0 v0 u1 v1 (ix2 r c)
      = expert (fun k => h2 (ix2 r k)) (k0_pay39 (F := Ideal) G M z (ix2 r 0)) u0 v0 c
        + expert (fun k => h2 (ix2 r k)) (k0_pay39 (F := Ideal) G M z (ix2 r 1)) u1 v1 c := by
  pointwise [k0_pay40]
  rfl

/-- The next experts' share, added to what came before. -/
theorem pay41_apply (h2 : FVec Ideal S256x1024 .f32) (w : FVec Ideal S256x8 .f32) (y : FVec Ideal S256x1024 .f32) (u0 : Vec Ideal S1x1024x256 .f32)
    (v0 : Vec Ideal S1x256x1024 .f32) (u1 : Vec Ideal S1x1024x256 .f32) (v1 : Vec Ideal S1x256x1024 .f32) (u2 : Vec Ideal S1x1024x256 .f32)
    (v2 : Vec Ideal S1x256x1024 .f32) (r : Fin 256) (c : Fin 1024) :
    k0_pay41 (F := Ideal) h2 w y u0 v0 u1 v1 u2 v2 (ix2 r c)
      = y (ix2 r c) + expert (fun k => h2 (ix2 r k)) (w (ix2 r 2)) u0 v0 c + expert (fun k => h2 (ix2 r k)) (w (ix2 r 3)) u1 v1 c
        + expert (fun k => h2 (ix2 r k)) (w (ix2 r 4)) u2 v2 c := by
  pointwise [k0_pay41]
  rfl

/-- The last three experts' share, added to what came before and to the residual row. -/
theorem pay42_apply (h1 h2 : FVec Ideal S256x1024 .f32) (w : FVec Ideal S256x8 .f32) (y : FVec Ideal S256x1024 .f32) (u0 : Vec Ideal S1x1024x256 .f32)
    (v0 : Vec Ideal S1x256x1024 .f32) (u1 : Vec Ideal S1x1024x256 .f32) (v1 : Vec Ideal S1x256x1024 .f32) (u2 : Vec Ideal S1x1024x256 .f32)
    (v2 : Vec Ideal S1x256x1024 .f32) (r : Fin 256) (c : Fin 1024) :
    k0_pay42 (F := Ideal) h1 h2 w y u0 v0 u1 v1 u2 v2 (ix2 r c)
      = h1 (ix2 r c) + (y (ix2 r c) + expert (fun k => h2 (ix2 r k)) (w (ix2 r 5)) u0 v0 c + expert (fun k => h2 (ix2 r k)) (w (ix2 r 6)) u1 v1 c
        + expert (fun k => h2 (ix2 r k)) (w (ix2 r 7)) u2 v2 c) := by
  pointwise [k0_pay42]
  rfl

/-- An expert's parameters, read from the stacked ones. -/
theorem expert_pick (x : Fin 1024 → EReal) (w : EReal) (x15 : Vec Ideal S8x1024x256 .f32) (x16 : Vec Ideal S8x256x1024 .f32) (e : Fin 8)
    (hu : ∀ a, (![e.val, 0, 0] : Fin 3 → ℕ) a + S1x1024x256.size a ≤ S8x1024x256.size a)
    (hv : ∀ a, (![e.val, 0, 0] : Fin 3 → ℕ) a + S1x256x1024.size a ≤ S8x256x1024.size a) (c : Fin 1024) :
    expert x w (pick x15 (Rect.unit (s := S8x1024x256) ![e.val, 0, 0] S1x1024x256.size hu).toLoadRect)
        (pick x16 (Rect.unit (s := S8x256x1024) ![e.val, 0, 0] S1x256x1024.size hv).toLoadRect) c
      = ∑ i : Fin 256, (silu (∑ k, x k * x15 (ix3 e k i)) * w) * x16 (ix3 e i c) := by
  unfold expert
  have h1 : ∀ k i, pick x15 (Rect.unit (s := S8x1024x256) ![e.val, 0, 0] S1x1024x256.size hu).toLoadRect (ix3 0 k i) = x15 (ix3 e k i) := fun k i => by
    refine congrArg x15 (funext fun a => Fin.ext ?_)
    fin_cases a <;> simp [LoadRect.idx]
  have h2 : ∀ i, pick x16 (Rect.unit (s := S8x256x1024) ![e.val, 0, 0] S1x256x1024.size hv).toLoadRect (ix3 0 i c) = x16 (ix3 e i c) := fun i => by
    refine congrArg x16 (funext fun a => Fin.ext ?_)
    fin_cases a <;> simp [LoadRect.idx]
  refine Finset.sum_congr rfl fun i _ => ?_
  rw [h2]
  simp only [h1]

/-- The experts' half of the block, row by row. -/
theorem moe_apply (h1 h2 hn : FVec Ideal S256x1024 .f32) (x13 : Vec Ideal S1024x8 .f32) (x14 : Vec Ideal S1x8 .f32) (x15 : Vec Ideal S8x1024x256 .f32)
    (x16 : Vec Ideal S8x256x1024 .f32) (S : Fin 1024 → Fin 8 → EReal) (g : Fin 8 → EReal) (r : Fin 256)
    (hx : ∀ c, hn (ix2 r c) = Ideal.div (h2 (ix2 r c)) (length fun c => h2 (ix2 r c)))
    (h13 : ∀ k e, x13 (ix2 k e) = Ideal.div (S k e) (length fun j => S j e)) (h14 : ∀ e, x14 (ix2 0 e) = sigmoid (g e)) (c : Fin 1024) :
    moe (F := Ideal) h1 h2 hn x13 x14 x15 x16 (ix2 r c)
      = h1 (ix2 r c) + experts (fun c => h2 (ix2 r c)) (gate (fun c => h2 (ix2 r c)) S g) (fun e k i => x15 (ix3 e k i)) (fun e i c => x16 (ix3 e i c)) c := by
  unfold moe
  rw [pay42_apply, pay41_apply, pay40_apply]
  have hg := gate2_apply hn x13 x14 (fun c => h2 (ix2 r c)) S g r hx h13 h14
  simp only [hg]
  unfold experts
  rw [Fin.sum_univ_eight]
  exact congrArg (h1 (ix2 r c) + ·)
    (congrArg₂ (· + ·) (congrArg₂ (· + ·) (congrArg₂ (· + ·) (congrArg₂ (· + ·) (congrArg₂ (· + ·) (congrArg₂ (· + ·) (congrArg₂ (· + ·)
      (expert_pick _ _ x15 x16 0 _ _ c) (expert_pick _ _ x15 x16 1 _ _ c)) (expert_pick _ _ x15 x16 2 _ _ c)) (expert_pick _ _ x15 x16 3 _ _ c))
      (expert_pick _ _ x15 x16 4 _ _ c)) (expert_pick _ _ x15 x16 5 _ _ c)) (expert_pick _ _ x15 x16 6 _ _ c)) (expert_pick _ _ x15 x16 7 _ _ c))

end Cert.KernelIdeal.Gen
end
-- ==== Proof.Kern.Whole.lean ====
module

public import proofs.«01_k».proof.Proof.Kern.Attn
public import proofs.«01_k».proof.Proof.Kern.Moe
public import proofs.«01_k».proof.Proof.Spec.Whole
public import proofs.«01_k».proof.Proof.Kern.Ffn

/-! A point's block of the result is the block of the inputs' result, the point's windows and the scratch buffers holding
what they should. -/

@[expose] public section

set_option maxRecDepth 16384

noncomputable section

namespace Cert.KernelIdeal.Gen

open Idealize.ShloMosaic Idealize.ShloMosaic.TcCoe Idealize.SL.Sem
open Cert.Spec
open scoped BigOperators

/-- The windows of a point hold the inputs' rows, the block's row `r` being the row `row r`. -/
structure Reads (I : Inputs) (row : Fin 256 → Fin 2048) (x0 : Vec Ideal S256x1024 .f32) (x1 : Vec Ideal S256x1 .f32)
    (x2 : Vec Ideal S256x1024 .f32) (x3 : Vec Ideal S1024x8 .f32) (x4 : Vec Ideal S1x8 .f32) (x5 x6 x7 : Vec Ideal S1024x512 .f32)
    (x8 x9 : Vec Ideal S256x64 .f32) (x10 : Vec Ideal S512x1024 .f32) (x11 x12 : Vec Ideal S1x1024 .f32) (x13 : Vec Ideal S1024x8 .f32)
    (x14 : Vec Ideal S1x8 .f32) (x15 : Vec Ideal S8x1024x256 .f32) (x16 : Vec Ideal S8x256x1024 .f32) : Prop where
  h0 : ∀ r k, x0 (ix2 r k) = I.h (row r) k
  h1 : ∀ r, x1 (ix2 r 0) = length (I.h (row r))
  h2 : ∀ r k, x2 (ix2 r k) = I.x (row r) k
  h3 : ∀ k e, x3 (ix2 k e) = Ideal.div (I.S1 k e) (length fun j => I.S1 j e)
  h4 : ∀ e, x4 (ix2 0 e) = sigmoid (I.g1 e)
  h5 : ∀ e k d, x5 (ix2 k (col e d)) = I.Wq e k d
  h6 : ∀ e k d, x6 (ix2 k (col e d)) = I.Wk e k d
  h7 : ∀ e k d, x7 (ix2 k (col e d)) = I.Wv e k d
  h8 : ∀ r d, x8 (ix2 r d) = I.cs (row r) d
  h9 : ∀ r d, x9 (ix2 r d) = I.sn (row r) d
  h10 : ∀ e d c, x10 (ix2 (col e d) c) = I.Wo e d c
  h11 : ∀ c, x11 (ix2 0 c) = I.w2 c
  h12 : ∀ c, x12 (ix2 0 c) = I.b2 c
  h13 : ∀ k e, x13 (ix2 k e) = Ideal.div (I.S2 k e) (length fun j => I.S2 j e)
  h14 : ∀ e, x14 (ix2 0 e) = sigmoid (I.g2 e)
  h15 : ∀ e k i, x15 (ix3 e k i) = I.up e k i
  h16 : ∀ e i c, x16 (ix3 e i c) = I.down e i c

variable {I : Inputs} {row : Fin 256 → Fin 2048} {x0 : Vec Ideal S256x1024 .f32} {x1 : Vec Ideal S256x1 .f32}
    {x2 : Vec Ideal S256x1024 .f32} {x3 : Vec Ideal S1024x8 .f32} {x4 : Vec Ideal S1x8 .f32} {x5 x6 x7 : Vec Ideal S1024x512 .f32}
    {x8 x9 : Vec Ideal S256x64 .f32} {x10 : Vec Ideal S512x1024 .f32} {x11 x12 : Vec Ideal S1x1024 .f32} {x13 : Vec Ideal S1024x8 .f32}
    {x14 : Vec Ideal S1x8 .f32} {x15 : Vec Ideal S8x1024x256 .f32} {x16 : Vec Ideal S8x256x1024 .f32}

namespace Reads

variable (R : Reads I row x0 x1 x2 x3 x4 x5 x6 x7 x8 x9 x10 x11 x12 x13 x14 x15 x16)
include R

/-- The block's rows are the normalised rows at their positions. -/
theorem rows (r : Fin 256) : (fun k => x0 (ix2 r k)) = I.h (row r) := funext (R.h0 r)

/-- The block's expert weights. -/
theorem weights (r : Fin 256) (e : Fin 8) : gateW (F := Ideal) x0 x1 x3 x4 (ix2 r e) = I.w (row r) e := by
  refine (gateW_apply x0 x1 x3 x4 I.S1 I.g1 r ?_ R.h3 R.h4 e).trans ?_
  · rw [R.rows]; exact R.h1 r
  · rw [R.rows]; rfl

/-- The block's keys. -/
theorem keys (r : Fin 256) (d : Fin 64) : keysT (F := Ideal) x0 x1 x3 x4 x6 x8 x9 (ix2 d r) = I.k (row r) d := by
  unfold keysT
  rw [ropeT_apply]
  simp only [pay14_eq, pay15_eq, keys_mix _ _ x6 I.Wk R.h6, R.h8, R.h9, R.weights, pay1_eq, R.h0]
  rfl

/-- The block's values. -/
theorem values (r : Fin 256) (d : Fin 64) : valuesB (F := Ideal) x0 x1 x3 x4 x7 (ix2 r d) = I.v (row r) d := by
  unfold valuesB
  simp only [pay19_eq, values_mix _ _ x7 I.Wv R.h7, R.weights, pay1_eq, R.h0]
  rfl

/-- The block's queries. -/
theorem queries (r : Fin 256) (d : Fin 64) : queriesRot (F := Ideal) x0 x1 x3 x4 x5 x8 x9 (ix2 r d) = I.q (row r) d := by
  unfold queriesRot
  rw [rope_apply]
  simp only [queries_mix _ _ _ _ x5 I.Wq R.h5, R.weights, R.h0, R.h8, R.h9]
  rfl

variable (i : grid0.Coords) (hi : ∀ r, (row r).val = 256 * (i 0).val + r.val) (H : I.Finite) (K : Vec Ideal S64x2048 .f32)
    (V : Vec Ideal S2048x64 .f32) (hK : ∀ j d, K (ix2 d j) = I.k j d) (hV : ∀ j d, V (ix2 j d) = I.v j d)
include hi H hK hV

/-- The block's attention. -/
theorem attention (r : Fin 256) (d : Fin 64) :
    attn (F := Ideal) i (queriesRot x0 x1 x3 x4 x5 x8 x9) K V (ix2 r d) = I.attn (row r) d := by
  have eq : (fun d => queriesRot (F := Ideal) x0 x1 x3 x4 x5 x8 x9 (ix2 r d)) = I.q (row r) := funext (R.queries r)
  have eK : (fun j d => K (ix2 d j)) = I.k := funext fun j => funext fun d => hK j d
  have hq := Inputs.isReal_q H (row r)
  have hk := Inputs.isReal_k H
  refine (attn_apply i _ K V r (row r) (hi r) (fun j => ?_) ?_ d).trans ?_
  · rw [eq, eK]; exact score_ne_top _ _ hq hk _ _
  · rw [eq, eK]; exact isReal_score_zero _ _ hq hk _
  · rw [eq, eK, show (fun j => V (ix2 j d)) = fun j => I.v j d from funext fun j => hV j d]; rfl

/-- The block's rows after the attention. -/
theorem after (r : Fin 256) (c : Fin 1024) :
    resid (F := Ideal) i (gateW x0 x1 x3 x4) (queriesRot x0 x1 x3 x4 x5 x8 x9) K V x2 x10 (ix2 r c) = I.h1 (row r) c := by
  rw [resid_apply i _ _ K V x2 x10 I.Wo R.h10 r c,
    show (fun c => x2 (ix2 r c)) = I.x (row r) from funext (R.h2 r),
    show (fun d => attn (F := Ideal) i (queriesRot x0 x1 x3 x4 x5 x8 x9) K V (ix2 r d)) = I.attn (row r) from
      funext fun d => R.attention i hi H K V hK hV r d,
    show (fun e => gateW (F := Ideal) x0 x1 x3 x4 (ix2 r e)) = I.w (row r) from funext (R.weights r)]
  rfl

/-- They, normalised. -/
theorem afterNorm (r : Fin 256) (c : Fin 1024) :
    normed (F := Ideal) i (gateW x0 x1 x3 x4) (queriesRot x0 x1 x3 x4 x5 x8 x9) K V x2 x10 x11 x12 (ix2 r c) = I.h2 (row r) c := by
  unfold normed
  refine (pay34_apply _ _ _ _ _ _ _ _ _ _ _ x11 x12 r c).trans ?_
  rw [show (fun c => x11 (ix2 0 c)) = I.w2 from funext R.h11, show (fun c => x12 (ix2 0 c)) = I.b2 from funext R.h12]
  exact congrArg (fun z => norm z I.w2 I.b2 c) (funext fun c => R.after i hi H K V hK hV r c)

/-- The block of the result. -/
theorem out (r : Fin 256) (c : Fin 1024) :
    outBlock (F := Ideal) i K V x0 x1 x2 x3 x4 x5 x8 x9 x10 x11 x12 x13 x14 x15 x16 (ix2 r c) = I.out (row r) c := by
  unfold outBlock
  have en : (fun c => normed (F := Ideal) i (gateW x0 x1 x3 x4) (queriesRot x0 x1 x3 x4 x5 x8 x9) K V x2 x10 x11 x12 (ix2 r c)) = I.h2 (row r) :=
    funext fun c => R.afterNorm i hi H K V hK hV r c
  refine (moe_apply _ _ _ x13 x14 x15 x16 I.S2 I.g2 r (fun c => ?_) R.h13 R.h14 c).trans ?_
  · exact pay35_apply _ _ _ _ _ _ _ _ _ _ _ x11 x12 r c
  · rw [en, R.after i hi H K V hK hV r c,
      show (fun e k i => x15 (ix3 e k i)) = I.up from funext fun e => funext fun k => funext fun i => R.h15 e k i,
      show (fun e i c => x16 (ix3 e i c)) = I.down from funext fun e => funext fun i => funext fun c => R.h16 e i c]
    rfl

end Reads

end Cert.KernelIdeal.Gen
end
-- ==== Proof.Kern.Local.lean ====
module

public import proofs.«01_k».proof.Proof.Kern.Moe

/-! A block of the result depends on the keys and the values only up to the block's own rows: what the scratch buffers hold
beyond them doesn't matter. -/

@[expose] public section

set_option maxRecDepth 16384

noncomputable section

namespace Cert.KernelIdeal.Gen

open Idealize.ShloMosaic Idealize.ShloMosaic.TcCoe Idealize.SL.Sem
open Cert.Spec
open scoped BigOperators

/-- A masked score has weight 0. -/
theorem exp_bot_sub (m : EReal) : Ideal.exp (⊥ - m) = 0 := by
  rw [sub_eq_add_neg, EReal.bot_add, exp_bot]

/-- The values that meet a masked score don't matter. -/
theorem pay25_congr (V V' : Vec Ideal S2048x64 .f32) (a : FVec Ideal S256x1024 .f32) (b : FVec Ideal S256x1 .f32) (c : FVec Ideal S256x1024 .f32)
    (r : Fin 256) (d : Fin 64) (h1 : ∀ x, c (ix2 r x) = (⊥ : EReal) ∨ V (ix2 (lo x) d) = V' (ix2 (lo x) d))
    (h2 : ∀ x, a (ix2 r x) = (⊥ : EReal) ∨ V (ix2 (hi x) d) = V' (ix2 (hi x) d)) :
    k0_pay25 (F := Ideal) V a b c (ix2 r d) = k0_pay25 (F := Ideal) V' a b c (ix2 r d) := by
  have e1 : ∀ x, Ideal.exp (c (ix2 r x)) * V (ix2 (lo x) d) = Ideal.exp (c (ix2 r x)) * V' (ix2 (lo x) d) := fun x => by
    rcases h1 x with h | h
    · rw [h, exp_bot, zero_mul, zero_mul]
    · rw [h]
  have e2 : ∀ (m : EReal) (x), Ideal.exp (a (ix2 r x) - m) * V (ix2 (hi x) d) = Ideal.exp (a (ix2 r x) - m) * V' (ix2 (hi x) d) := fun m x => by
    rcases h2 x with h | h
    · rw [h, exp_bot_sub, zero_mul, zero_mul]
    · rw [h]
  pointwise [k0_pay25]
  refine congrArg₂ (· * ·) (congrArg₂ (· + ·) (Finset.sum_congr rfl fun x _ => e2 _ x)
    (congrArg (_ * ·) (congrArg (· * _) (Finset.sum_congr rfl fun x _ => e1 x)))) rfl

/-- A score depends on the key it is taken with, where it is not masked. -/
theorem score_congr (q : Fin 64 → EReal) (k k' : Fin 2048 → Fin 64 → EReal) (n j : Fin 2048) (h : j ≤ n → ∀ d, k j d = k' j d) :
    score q k n j = score q k' n j := by
  unfold score
  split_ifs with hj
  · simp only [h hj]
  · rfl

/-- Past the diagonal a score is masked. -/
theorem score_masked (q : Fin 64 → EReal) (k : Fin 2048 → Fin 64 → EReal) (n j : Fin 2048) (h : ¬ j ≤ n) : score q k n j = ⊥ := if_neg h

/-- The row of the result that a row of a block is. -/
def rowOf (i : grid0.Coords) (r : Fin 256) : Fin 2048 :=
  ⟨256 * (i 0).val + r.val, by have := r.isLt; have : (i 0).val < 8 := (i 0).isLt; omega⟩

/-- The attention depends on the keys and values up to the block's last row only. -/
theorem attn_congr (i : grid0.Coords) (qe : FVec Ideal S256x64 .f32) (K K' : Vec Ideal S64x2048 .f32) (V V' : Vec Ideal S2048x64 .f32)
    (hK : ∀ j : Fin 2048, j.val < 256 * ((i 0).val + 1) → ∀ d, K (ix2 d j) = K' (ix2 d j))
    (hV : ∀ j : Fin 2048, j.val < 256 * ((i 0).val + 1) → ∀ d, V (ix2 j d) = V' (ix2 j d)) :
    k0_pay25 (F := Ideal) V (k0_pay22 (BitVec.ofNat 32 (i 0).val) qe K) (k0_pay23 (BitVec.ofNat 32 (i 0).val) qe K) (k0_pay24 (BitVec.ofNat 32 (i 0).val) qe K)
      = k0_pay25 (F := Ideal) V' (k0_pay22 (BitVec.ofNat 32 (i 0).val) qe K') (k0_pay23 (BitVec.ofNat 32 (i 0).val) qe K')
          (k0_pay24 (BitVec.ofNat 32 (i 0).val) qe K') := by
  have ha : (i 0).val < 8 := (i 0).isLt
  have hle : ∀ (r : Fin 256) (j : Fin 2048), j ≤ rowOf i r → j.val < 256 * ((i 0).val + 1) := fun r j h => by
    have h' : j.val ≤ 256 * (i 0).val + r.val := h
    have := r.isLt
    omega
  have hm : ∀ K r j, k0_pay20 (F := Ideal) (BitVec.ofNat 32 (i 0).val) qe K (ix2 r j)
      = score (fun d => qe (ix2 r d)) (fun j d => K (ix2 d j)) (rowOf i r) j := fun K r j => masked_apply _ ha qe K r _ rfl j
  have h20 : k0_pay20 (F := Ideal) (BitVec.ofNat 32 (i 0).val) qe K = k0_pay20 (F := Ideal) (BitVec.ofNat 32 (i 0).val) qe K' := by
    refine funext fun x => ?_
    obtain ⟨r, j, rfl⟩ : ∃ r j, x = ix2 r j := ⟨_, _, eq_ix2 x⟩
    rw [hm, hm]
    exact score_congr _ _ _ _ _ fun h d => hK j (hle r j h) d
  have h21 : k0_pay21 (F := Ideal) (BitVec.ofNat 32 (i 0).val) qe K = k0_pay21 (F := Ideal) (BitVec.ofNat 32 (i 0).val) qe K' := by
    unfold k0_pay21; rw [h20]
  have h22 : k0_pay22 (F := Ideal) (BitVec.ofNat 32 (i 0).val) qe K = k0_pay22 (F := Ideal) (BitVec.ofNat 32 (i 0).val) qe K' := by
    unfold k0_pay22; rw [h20]
  have h23 : k0_pay23 (F := Ideal) (BitVec.ofNat 32 (i 0).val) qe K = k0_pay23 (F := Ideal) (BitVec.ofNat 32 (i 0).val) qe K' := by
    unfold k0_pay23; rw [h21]
  have h24 : k0_pay24 (F := Ideal) (BitVec.ofNat 32 (i 0).val) qe K = k0_pay24 (F := Ideal) (BitVec.ofNat 32 (i 0).val) qe K' := by
    unfold k0_pay24; rw [h21, h23]
  rw [h22, h23, h24]
  refine funext fun x => ?_
  obtain ⟨r, d, rfl⟩ : ∃ r j, x = ix2 r j := ⟨_, _, eq_ix2 x⟩
  refine pay25_congr _ _ _ _ _ r d (fun x => ?_) fun x => ?_
  · by_cases h : lo x ≤ rowOf i r
    · exact .inr (hV _ (hle r _ h) d)
    · refine .inl ?_
      rw [pay24_apply, hm, score_masked _ _ _ _ h, sub_eq_add_neg, EReal.bot_add]
  · by_cases h : hi x ≤ rowOf i r
    · exact .inr (hV _ (hle r _ h) d)
    · refine .inl ?_
      rw [pay22_apply, hm, score_masked _ _ _ _ h]

/-- So does the block of the result. -/
theorem outBlock_congr (i : grid0.Coords) (K K' : Vec Ideal S64x2048 .f32) (V V' : Vec Ideal S2048x64 .f32) (x0 : Vec Ideal S256x1024 .f32)
    (x1 : Vec Ideal S256x1 .f32) (x2 : Vec Ideal S256x1024 .f32) (x3 : Vec Ideal S1024x8 .f32) (x4 : Vec Ideal S1x8 .f32)
    (x5 : Vec Ideal S1024x512 .f32) (x8 x9 : Vec Ideal S256x64 .f32) (x10 : Vec Ideal S512x1024 .f32) (x11 x12 : Vec Ideal S1x1024 .f32)
    (x13 : Vec Ideal S1024x8 .f32) (x14 : Vec Ideal S1x8 .f32) (x15 : Vec Ideal S8x1024x256 .f32) (x16 : Vec Ideal S8x256x1024 .f32)
    (hK : ∀ j : Fin 2048, j.val < 256 * ((i 0).val + 1) → ∀ d, K (ix2 d j) = K' (ix2 d j))
    (hV : ∀ j : Fin 2048, j.val < 256 * ((i 0).val + 1) → ∀ d, V (ix2 j d) = V' (ix2 j d)) :
    outBlock (F := Ideal) i K V x0 x1 x2 x3 x4 x5 x8 x9 x10 x11 x12 x13 x14 x15 x16
      = outBlock (F := Ideal) i K' V' x0 x1 x2 x3 x4 x5 x8 x9 x10 x11 x12 x13 x14 x15 x16 := by
  have hA := attn_congr i (queriesRot (F := Ideal) x0 x1 x3 x4 x5 x8 x9) K K' V V' hK hV
  simp only [outBlock, resid, normed, units, attn, k0_pay26, k0_pay27, k0_pay28, k0_pay29, k0_pay30, k0_pay31, hA]

end Cert.KernelIdeal.Gen
end
-- ==== Proof.Launch.Blocks.lean ====
module

public import proofs.«01_k».proof.Proof.Launch.Host
public import proofs.«01_k».proof.Proof.Kern.Whole
public import proofs.«01_k».proof.Proof.Kern.Local
public import Idealize.ShloMosaic.Lib.Pipeline.ValueKit

/-! What each window holds at a point: the inputs' rows, those of the point's block. -/

@[expose] public section

set_option maxRecDepth 16384

noncomputable section

namespace Cert.KernelIdeal.Gen

open Idealize.ShloMosaic Idealize.ShloMosaic.TcCoe Idealize.SL.Sem Idealize.ShloMosaic.Tactic
open Cert.Spec
open scoped BigOperators

variable (m : (ℓ : Loc nD τ sig) → Buf (Elt Ideal) ℓ) (c : Dev nD)

/-- The windows that move with the grid hold the point's own block. -/
theorem idx_moving : ∀ t : Fin cfg0.N, win0_0.index t = ![t.val, 0] ∧ win0_1.index t = ![t.val, 0] ∧ win0_2.index t = ![t.val, 0]
    ∧ win0_8.index t = ![t.val, 0] ∧ win0_9.index t = ![t.val, 0] ∧ win0_17.index t = ![t.val, 0] ∧ (grid0.coords t 0).val = t.val :=
  (by decide +kernel : ∀ t : Fin grid0.N, _)

/-- The others hold all of their arrays. -/
theorem idx_whole : ∀ t : Fin cfg0.N, win0_3.index t = ![0, 0] ∧ win0_4.index t = ![0, 0] ∧ win0_5.index t = ![0, 0] ∧ win0_6.index t = ![0, 0]
    ∧ win0_7.index t = ![0, 0] ∧ win0_10.index t = ![0, 0] ∧ win0_11.index t = ![0, 0] ∧ win0_12.index t = ![0, 0] ∧ win0_13.index t = ![0, 0]
    ∧ win0_14.index t = ![0, 0] ∧ win0_15.index t = ![0, 0, 0] ∧ win0_16.index t = ![0, 0, 0] :=
  (by decide +kernel : ∀ t : Fin grid0.N, _)

/-- The row of the arrays that a point's row is. -/
def rowAt (t : Fin cfg0.N) (r : Fin 256) : Fin 2048 :=
  ⟨256 * t.val + r.val, by have := r.isLt; have := lt_of_lt_of_eq t.isLt N_0; omega⟩

/-! The windows' blocks as parts of their arrays. -/

/-- The blocks that a point reads. The normalised rows, -/
theorem block0 (t : Fin cfg0.N) (r : Fin 256) (k : Fin 1024) :
    (show Vec Ideal S256x1024 .f32 from iblk m c 0 t) (ix2 r k) = (show FVec Ideal S2048x1024 .f32 from V m c main_v22) (ix2 (rowAt t r) k) := by
  have hr : (rowAt t r).val = 256 * t.val + r.val := rfl
  blk_ext [iblk, idx_moving t]

/-- their lengths, -/
theorem block1 (t : Fin cfg0.N) (r : Fin 256) (k : Fin 1) :
    (show Vec Ideal S256x1 .f32 from iblk m c 1 t) (ix2 r k) = (show FVec Ideal S2048x1 .f32 from V m c main_v28) (ix2 (rowAt t r) k) := by
  have hr : (rowAt t r).val = 256 * t.val + r.val := rfl
  blk_ext [iblk, idx_moving t]

/-- the residual rows, -/
theorem block2 (t : Fin cfg0.N) (r : Fin 256) (k : Fin 1024) :
    (show Vec Ideal S256x1024 .f32 from iblk m c 2 t) (ix2 r k) = (show FVec Ideal S2048x1024 .f32 from V m c main_v0) (ix2 (rowAt t r) k) := by
  have hr : (rowAt t r).val = 256 * t.val + r.val := rfl
  blk_ext [iblk, idx_moving t]

/-- the cosines -/
theorem block8 (t : Fin cfg0.N) (r : Fin 256) (k : Fin 64) :
    (show Vec Ideal S256x64 .f32 from iblk m c 8 t) (ix2 r k) = (show FVec Ideal S2048x64 .f32 from V m c main_v85) (ix2 (rowAt t r) k) := by
  have hr : (rowAt t r).val = 256 * t.val + r.val := rfl
  blk_ext [iblk, idx_moving t]

/-- and the sines move with the point; -/
theorem block9 (t : Fin cfg0.N) (r : Fin 256) (k : Fin 64) :
    (show Vec Ideal S256x64 .f32 from iblk m c 9 t) (ix2 r k) = (show FVec Ideal S2048x64 .f32 from V m c main_v86) (ix2 (rowAt t r) k) := by
  have hr : (rowAt t r).val = 256 * t.val + r.val := rfl
  blk_ext [iblk, idx_moving t]

/-- the gate's columns, -/
theorem block3 (t : Fin cfg0.N) (a : Fin 1024) (b : Fin 8) :
    (show Vec Ideal S1024x8 .f32 from iblk m c 3 t) (ix2 a b) = (show FVec Ideal S1024x8 .f32 from V m c main_v36) (ix2 a b) := by
  blk_ext [iblk, idx_whole t]

/-- its thresholds, -/
theorem block4 (t : Fin cfg0.N) (a : Fin 1) (b : Fin 8) :
    (show Vec Ideal S1x8 .f32 from iblk m c 4 t) (ix2 a b) = (show FVec Ideal S1x8 .f32 from V m c main_v51) (ix2 a b) := by
  blk_ext [iblk, idx_whole t]

/-- the projections to queries, -/
theorem block5 (t : Fin cfg0.N) (a : Fin 1024) (b : Fin 512) :
    (show Vec Ideal S1024x512 .f32 from iblk m c 5 t) (ix2 a b) = (show FVec Ideal S1024x512 .f32 from V m c main_v60) (ix2 a b) := by
  blk_ext [iblk, idx_whole t]

/-- keys -/
theorem block6 (t : Fin cfg0.N) (a : Fin 1024) (b : Fin 512) :
    (show Vec Ideal S1024x512 .f32 from iblk m c 6 t) (ix2 a b) = (show FVec Ideal S1024x512 .f32 from V m c main_v62) (ix2 a b) := by
  blk_ext [iblk, idx_whole t]

/-- and values, -/
theorem block7 (t : Fin cfg0.N) (a : Fin 1024) (b : Fin 512) :
    (show Vec Ideal S1024x512 .f32 from iblk m c 7 t) (ix2 a b) = (show FVec Ideal S1024x512 .f32 from V m c main_v64) (ix2 a b) := by
  blk_ext [iblk, idx_whole t]

/-- the projection back, -/
theorem block10 (t : Fin cfg0.N) (a : Fin 512) (b : Fin 1024) :
    (show Vec Ideal S512x1024 .f32 from iblk m c 10 t) (ix2 a b) = (show FVec Ideal S512x1024 .f32 from V m c main_v65) (ix2 a b) := by
  blk_ext [iblk, idx_whole t]

/-- the second normalisation's scale -/
theorem block11 (t : Fin cfg0.N) (a : Fin 1) (b : Fin 1024) :
    (show Vec Ideal S1x1024 .f32 from iblk m c 11 t) (ix2 a b) = (show FVec Ideal S1x1024 .f32 from V m c main_v87) (ix2 a b) := by
  blk_ext [iblk, idx_whole t]

/-- and shift, -/
theorem block12 (t : Fin cfg0.N) (a : Fin 1) (b : Fin 1024) :
    (show Vec Ideal S1x1024 .f32 from iblk m c 12 t) (ix2 a b) = (show FVec Ideal S1x1024 .f32 from V m c main_v88) (ix2 a b) := by
  blk_ext [iblk, idx_whole t]

/-- the second gate's columns -/
theorem block13 (t : Fin cfg0.N) (a : Fin 1024) (b : Fin 8) :
    (show Vec Ideal S1024x8 .f32 from iblk m c 13 t) (ix2 a b) = (show FVec Ideal S1024x8 .f32 from V m c main_v44) (ix2 a b) := by
  blk_ext [iblk, idx_whole t]

/-- and thresholds, -/
theorem block14 (t : Fin cfg0.N) (a : Fin 1) (b : Fin 8) :
    (show Vec Ideal S1x8 .f32 from iblk m c 14 t) (ix2 a b) = (show FVec Ideal S1x8 .f32 from V m c main_v58) (ix2 a b) := by
  blk_ext [iblk, idx_whole t]

/-- the experts' projections up -/
theorem block15 (t : Fin cfg0.N) (a : Fin 8) (b : Fin 1024) (k : Fin 256) :
    (show Vec Ideal S8x1024x256 .f32 from iblk m c 15 t) (ix3 a b k) = (show FVec Ideal S8x1024x256 .f32 from V m c main_arg13) (ix3 a b k) := by
  blk_ext [iblk, idx_whole t]

/-- and down are read whole. -/
theorem block16 (t : Fin cfg0.N) (a : Fin 8) (b : Fin 256) (k : Fin 1024) :
    (show Vec Ideal S8x256x1024 .f32 from iblk m c 16 t) (ix3 a b k) = (show FVec Ideal S8x256x1024 .f32 from V m c main_arg14) (ix3 a b k) := by
  blk_ext [iblk, idx_whole t]

/-- Where an expert's columns begin. -/
theorem col_eq (e : Fin 8) (d : Fin 64) : col e d = ⟨e.val * 64 + d.val, by omega⟩ := Fin.ext (by simp only [col]; omega)

/-- The windows of a point hold the inputs' rows. -/
theorem reads_at (t : Fin cfg0.N) : Reads (inputs m c) (rowAt t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t) (iblk m c 13 t)
    (iblk m c 14 t) (iblk m c 15 t) (iblk m c 16 t) where
  h0 r k := (block0 m c t r k).trans (host_h m c _ k)
  h1 r := (block1 m c t r 0).trans (host_length m c _)
  h2 r k := (block2 m c t r k).trans (host_x m c _ k)
  h3 k e := (block3 m c t k e).trans (host_S1 m c k e)
  h4 e := (block4 m c t 0 e).trans (host_g1 m c e)
  h5 e k d := by rw [col_eq]; exact (block5 m c t k _).trans (host_Wq m c k e d)
  h6 e k d := by rw [col_eq]; exact (block6 m c t k _).trans (host_Wk m c k e d)
  h7 e k d := by rw [col_eq]; exact (block7 m c t k _).trans (host_Wv m c k e d)
  h8 r d := (block8 m c t r d).trans (host_cs m c _ d)
  h9 r d := (block9 m c t r d).trans (host_sn m c _ d)
  h10 e d k := by rw [col_eq]; exact (block10 m c t _ k).trans (host_Wo m c k e d)
  h11 k := (block11 m c t 0 k).trans (host_w2 m c k)
  h12 k := (block12 m c t 0 k).trans (host_b2 m c k)
  h13 k e := (block13 m c t k e).trans (host_S2 m c k e)
  h14 e := (block14 m c t 0 e).trans (host_g2 m c e)
  h15 e k i := (block15 m c t e k i).trans (congrFun (V_main_arg13 m c) (ix3 e k i))
  h16 e i k := (block16 m c t e i k).trans (congrFun (V_main_arg14 m c) (ix3 e i k))

end Cert.KernelIdeal.Gen
end
-- ==== Proof.Body.RunA.lean ====
module

public import proofs.«01_k».proof.Proof.Body.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the proof term is as long as the body
set_option maxHeartbeats 16000000 in
/-- The body at the first point of the grid: on memrefs that hold the blocks `x0` … `x16`, the keys `K` and the values `V`, it ends
    with the inputs as they were, the scratch buffers changed as `Step` says, and the block of the result that `outBlock`
    gives from the scratch buffers' new contents. -/
theorem runA (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .f32) (harg3 : arg3.IsWhole) (arg4 : Memref sig .tc .vmem S1024x8 .f32) (harg4 : arg4.IsWhole) (arg5 : Memref sig .tc .vmem S1x8 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S256x64 .f32) (harg9 : arg9.IsWhole) (arg10 : Memref sig .tc .vmem S256x64 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x8 .f32) (harg14 : arg14.IsWhole) (arg15 : Memref sig .tc .vmem S1x8 .f32) (harg15 : arg15.IsWhole) (arg16 : Memref sig .tc .vmem S8x1024x256 .f32) (harg16 : arg16.IsWhole) (arg17 : Memref sig .tc .vmem S8x256x1024 .f32) (harg17 : arg17.IsWhole) (arg18 : Memref sig .tc .vmem S256x1024 .f32) (harg18 : arg18.IsWhole) (arg19 : Memref sig .tc .vmem S64x2048 .f32) (harg19 : arg19.IsWhole) (arg20 : Memref sig .tc .vmem S2048x64 .f32) (harg20 : arg20.IsWhole) (hc0 : cond0_0 i)
    (x0 : Vec F S256x1024 .f32) (x1 : Vec F S256x1 .f32) (x2 : Vec F S256x1024 .f32) (x3 : Vec F S1024x8 .f32) (x4 : Vec F S1x8 .f32) (x5 : Vec F S1024x512 .f32) (x6 : Vec F S1024x512 .f32) (x7 : Vec F S1024x512 .f32) (x8 : Vec F S256x64 .f32) (x9 : Vec F S256x64 .f32) (x10 : Vec F S512x1024 .f32) (x11 : Vec F S1x1024 .f32) (x12 : Vec F S1x1024 .f32) (x13 : Vec F S1024x8 .f32) (x14 : Vec F S1x8 .f32) (x15 : Vec F S8x1024x256 .f32) (x16 : Vec F S8x256x1024 .f32) (K : Vec F S64x2048 .f32) (V : Vec F S2048x64 .f32) :
      ∀ (E : Set ℕ) (C : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ owns (c : Thread nD τ) arg19 fullShare K ∗ owns (c : Thread nD τ) arg20 fullShare V
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ K' V', ⌜Step i (keysT x0 x1 x3 x4 x6 x8 x9) (valuesB x0 x1 x3 x4 x7) K K' V V'⌝ ∗ (∃ d, owns (c : Thread nD τ) arg18 fullShare d ∗ ⌜d = outBlock i K' V' x0 x1 x2 x3 x4 x5 x8 x9 x10 x11 x12 x13 x14 x15 x16⌝) ∗ owns (c : Thread nD τ) arg19 fullShare K' ∗ owns (c : Thread nD τ) arg20 fullShare V')) -∗ C ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) C := by
    intro E C
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%fs0, %hs0, HS0⟩, ⟨%fs1, %hs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    iexists (arg19.view.read (Elt F) (arg19.view.writes (Elt F) fs0 (runA.sl.HS0_1 c i arg1 harg1 arg2 harg2 arg4 harg4 arg5 harg5 arg7 harg7 arg9 harg9 arg10 harg10 x0 x1 x3 x4 x6 x8 x9)))
    iexists (arg20.view.read (Elt F) (arg20.view.writes (Elt F) fs1 (runA.sl.HS1_2 c i arg1 harg1 arg2 harg2 arg4 harg4 arg5 harg5 arg8 harg8 x0 x1 x3 x4 x7)))
    isplitr
    · ipureintro
      have h := step_of i (keysT x0 x1 x3 x4 x6 x8 x9) (valuesB x0 x1 x3 x4 x7) K V arg19 arg20 fs0 fs1 hs0 hs1 [⟨Rect.unit ![0, 0] S2048x64.size inb_S2048x64_S2048x64_0_0, k0_pay17⟩] (.inl hc0)
      convert h using 3
      · delta keysT
        delta runA.sl.v236 runA.sl.v224 runA.sl.HS1_2 runA.sl.HS0_1 runA.sl.cst_14 runA.sl.r_37 runA.sl.r_36 runA.sl.r_35 runA.sl.r_34 runA.sl.r_33 runA.sl.r_32 runA.sl.r_31 runA.sl.r_30 runA.sl.r_29 runA.sl.r_28 runA.sl.r_27 runA.sl.r_26 runA.sl.r_25 runA.sl.r_24 runA.sl.r_23 runA.sl.r_22 runA.sl.r_21 runA.sl.r_20 runA.sl.r_19 runA.sl.r_18 runA.sl.r_17 runA.sl.r_16 runA.sl.r_15 runA.sl.r_14 runA.sl.r_13 runA.sl.r_12 runA.sl.r_11 runA.sl.r_10 runA.sl.r_9 runA.sl.r_8 runA.sl.r_7 runA.sl.r_6 runA.sl.r_5 runA.sl.r_4 runA.sl.r_3 runA.sl.r_2 runA.sl.r_1 runA.sl.r
        simp only [readAt_eq_pick, Memref.IsWhole.read_unread, pick00]
        rfl
      · delta valuesB
        delta runA.sl.v236 runA.sl.v224 runA.sl.HS1_2 runA.sl.HS0_1 runA.sl.cst_14 runA.sl.r_37 runA.sl.r_36 runA.sl.r_35 runA.sl.r_34 runA.sl.r_33 runA.sl.r_32 runA.sl.r_31 runA.sl.r_30 runA.sl.r_29 runA.sl.r_28 runA.sl.r_27 runA.sl.r_26 runA.sl.r_25 runA.sl.r_24 runA.sl.r_23 runA.sl.r_22 runA.sl.r_21 runA.sl.r_20 runA.sl.r_19 runA.sl.r_18 runA.sl.r_17 runA.sl.r_16 runA.sl.r_15 runA.sl.r_14 runA.sl.r_13 runA.sl.r_12 runA.sl.r_11 runA.sl.r_10 runA.sl.r_9 runA.sl.r_8 runA.sl.r_7 runA.sl.r_6 runA.sl.r_5 runA.sl.r_4 runA.sl.r_3 runA.sl.r_2 runA.sl.r_1 runA.sl.r
        simp only [readAt_eq_pick, Memref.IsWhole.read_unread, pick00]
        rfl
    isplitl [H17]
    · iexists _
      isplitl [H17]
      · iexists _; isplitr; swap
        · iexact H17
        · ipureintro; rfl
      · ipureintro
        refine (read_writes_full (off := ![0, 0]) arg18 f17 (by decide) _ _).trans ?_
        have hC := fun p inb inb' z => readCov_whole (F := F) (s := S2048x64) (off := ![0, 0]) arg20 fs1 p (by decide) inb inb' z
        delta runA.sl.v236 runA.sl.v224 runA.sl.HS1_2 runA.sl.HS0_1 runA.sl.cst_14 runA.sl.r_37 runA.sl.r_36 runA.sl.r_35 runA.sl.r_34 runA.sl.r_33 runA.sl.r_32 runA.sl.r_31 runA.sl.r_30 runA.sl.r_29 runA.sl.r_28 runA.sl.r_27 runA.sl.r_26 runA.sl.r_25 runA.sl.r_24 runA.sl.r_23 runA.sl.r_22 runA.sl.r_21 runA.sl.r_20 runA.sl.r_19 runA.sl.r_18 runA.sl.r_17 runA.sl.r_16 runA.sl.r_15 runA.sl.r_14 runA.sl.r_13 runA.sl.r_12 runA.sl.r_11 runA.sl.r_10 runA.sl.r_9 runA.sl.r_8 runA.sl.r_7 runA.sl.r_6 runA.sl.r_5 runA.sl.r_4 runA.sl.r_3 runA.sl.r_2 runA.sl.r_1 runA.sl.r
        simp only [readAt_eq_pick, Memref.IsWhole.read_unread, pick00, hC]
        rfl
    isplitl [HS0]
    · iexists _; isplitr; · ipureintro; rfl
      iexact HS0
    · iexists _; isplitr; · ipureintro; rfl
      iexact HS1

end Cert.KernelIdeal.Gen

end
-- ==== Proof.Body.RunB.lean ====
module

public import proofs.«01_k».proof.Proof.Body.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the proof term is as long as the body
set_option maxHeartbeats 16000000 in
/-- The body at any later point of the grid: on memrefs that hold the blocks `x0` … `x16`, the keys `K` and the values `V`, it ends
    with the inputs as they were, the scratch buffers changed as `Step` says, and the block of the result that `outBlock`
    gives from the scratch buffers' new contents. -/
theorem runB (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .f32) (harg3 : arg3.IsWhole) (arg4 : Memref sig .tc .vmem S1024x8 .f32) (harg4 : arg4.IsWhole) (arg5 : Memref sig .tc .vmem S1x8 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S256x64 .f32) (harg9 : arg9.IsWhole) (arg10 : Memref sig .tc .vmem S256x64 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x8 .f32) (harg14 : arg14.IsWhole) (arg15 : Memref sig .tc .vmem S1x8 .f32) (harg15 : arg15.IsWhole) (arg16 : Memref sig .tc .vmem S8x1024x256 .f32) (harg16 : arg16.IsWhole) (arg17 : Memref sig .tc .vmem S8x256x1024 .f32) (harg17 : arg17.IsWhole) (arg18 : Memref sig .tc .vmem S256x1024 .f32) (harg18 : arg18.IsWhole) (arg19 : Memref sig .tc .vmem S64x2048 .f32) (harg19 : arg19.IsWhole) (arg20 : Memref sig .tc .vmem S2048x64 .f32) (harg20 : arg20.IsWhole) (hc0 : ¬ cond0_0 i)
    (x0 : Vec F S256x1024 .f32) (x1 : Vec F S256x1 .f32) (x2 : Vec F S256x1024 .f32) (x3 : Vec F S1024x8 .f32) (x4 : Vec F S1x8 .f32) (x5 : Vec F S1024x512 .f32) (x6 : Vec F S1024x512 .f32) (x7 : Vec F S1024x512 .f32) (x8 : Vec F S256x64 .f32) (x9 : Vec F S256x64 .f32) (x10 : Vec F S512x1024 .f32) (x11 : Vec F S1x1024 .f32) (x12 : Vec F S1x1024 .f32) (x13 : Vec F S1024x8 .f32) (x14 : Vec F S1x8 .f32) (x15 : Vec F S8x1024x256 .f32) (x16 : Vec F S8x256x1024 .f32) (K : Vec F S64x2048 .f32) (V : Vec F S2048x64 .f32) :
      ∀ (E : Set ℕ) (C : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ owns (c : Thread nD τ) arg19 fullShare K ∗ owns (c : Thread nD τ) arg20 fullShare V
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ K' V', ⌜Step i (keysT x0 x1 x3 x4 x6 x8 x9) (valuesB x0 x1 x3 x4 x7) K K' V V'⌝ ∗ (∃ d, owns (c : Thread nD τ) arg18 fullShare d ∗ ⌜d = outBlock i K' V' x0 x1 x2 x3 x4 x5 x8 x9 x10 x11 x12 x13 x14 x15 x16⌝) ∗ owns (c : Thread nD τ) arg19 fullShare K' ∗ owns (c : Thread nD τ) arg20 fullShare V')) -∗ C ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) C := by
    intro E C
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%fs0, %hs0, HS0⟩, ⟨%fs1, %hs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    iexists (arg19.view.read (Elt F) (arg19.view.writes (Elt F) fs0 (runB.sl.HS0_1 c i arg1 harg1 arg2 harg2 arg4 harg4 arg5 harg5 arg7 harg7 arg9 harg9 arg10 harg10 x0 x1 x3 x4 x6 x8 x9)))
    iexists (arg20.view.read (Elt F) (arg20.view.writes (Elt F) fs1 (runB.sl.HS1_1 c i arg1 harg1 arg2 harg2 arg4 harg4 arg5 harg5 arg8 harg8 x0 x1 x3 x4 x7)))
    isplitr
    · ipureintro
      have h := step_of i (keysT x0 x1 x3 x4 x6 x8 x9) (valuesB x0 x1 x3 x4 x7) K V arg19 arg20 fs0 fs1 hs0 hs1 [] (.inr rfl)
      convert h using 3
      · delta keysT
        delta runB.sl.v204 runB.sl.v203 runB.sl.v202 runB.sl.v224 runB.sl.HS1_1 runB.sl.HS0_1 runB.sl.cst_14 runB.sl.r_38 runB.sl.r_37 runB.sl.r_36 runB.sl.r_35 runB.sl.r_34 runB.sl.r_33 runB.sl.r_32 runB.sl.r_31 runB.sl.r_30 runB.sl.r_29 runB.sl.r_28 runB.sl.r_27 runB.sl.r_26 runB.sl.r_25 runB.sl.r_24 runB.sl.r_23 runB.sl.r_22 runB.sl.r_21 runB.sl.r_20 runB.sl.r_19 runB.sl.r_18 runB.sl.r_17 runB.sl.r_16 runB.sl.r_15 runB.sl.r_14 runB.sl.r_13 runB.sl.r_12 runB.sl.r_11 runB.sl.r_10 runB.sl.r_9 runB.sl.r_8 runB.sl.r_7 runB.sl.r_6 runB.sl.r_5 runB.sl.r_4 runB.sl.r_3 runB.sl.r_2 runB.sl.r_1 runB.sl.r
        simp only [readAt_eq_pick, Memref.IsWhole.read_unread, pick00]
        rfl
      · delta valuesB
        delta runB.sl.v204 runB.sl.v203 runB.sl.v202 runB.sl.v224 runB.sl.HS1_1 runB.sl.HS0_1 runB.sl.cst_14 runB.sl.r_38 runB.sl.r_37 runB.sl.r_36 runB.sl.r_35 runB.sl.r_34 runB.sl.r_33 runB.sl.r_32 runB.sl.r_31 runB.sl.r_30 runB.sl.r_29 runB.sl.r_28 runB.sl.r_27 runB.sl.r_26 runB.sl.r_25 runB.sl.r_24 runB.sl.r_23 runB.sl.r_22 runB.sl.r_21 runB.sl.r_20 runB.sl.r_19 runB.sl.r_18 runB.sl.r_17 runB.sl.r_16 runB.sl.r_15 runB.sl.r_14 runB.sl.r_13 runB.sl.r_12 runB.sl.r_11 runB.sl.r_10 runB.sl.r_9 runB.sl.r_8 runB.sl.r_7 runB.sl.r_6 runB.sl.r_5 runB.sl.r_4 runB.sl.r_3 runB.sl.r_2 runB.sl.r_1 runB.sl.r
        simp only [readAt_eq_pick, Memref.IsWhole.read_unread, pick00]
        rfl
    isplitl [H17]
    · iexists _
      isplitl [H17]
      · iexists _; isplitr; swap
        · iexact H17
        · ipureintro; rfl
      · ipureintro
        refine (read_writes_full (off := ![0, 0]) arg18 f17 (by decide) _ _).trans ?_
        delta runB.sl.v204 runB.sl.v203 runB.sl.v202 runB.sl.v224 runB.sl.HS1_1 runB.sl.HS0_1 runB.sl.cst_14 runB.sl.r_38 runB.sl.r_37 runB.sl.r_36 runB.sl.r_35 runB.sl.r_34 runB.sl.r_33 runB.sl.r_32 runB.sl.r_31 runB.sl.r_30 runB.sl.r_29 runB.sl.r_28 runB.sl.r_27 runB.sl.r_26 runB.sl.r_25 runB.sl.r_24 runB.sl.r_23 runB.sl.r_22 runB.sl.r_21 runB.sl.r_20 runB.sl.r_19 runB.sl.r_18 runB.sl.r_17 runB.sl.r_16 runB.sl.r_15 runB.sl.r_14 runB.sl.r_13 runB.sl.r_12 runB.sl.r_11 runB.sl.r_10 runB.sl.r_9 runB.sl.r_8 runB.sl.r_7 runB.sl.r_6 runB.sl.r_5 runB.sl.r_4 runB.sl.r_3 runB.sl.r_2 runB.sl.r_1 runB.sl.r
        simp only [readAt_eq_pick, Memref.IsWhole.read_unread, pick00]
        rfl
    isplitl [HS0]
    · iexists _; isplitr; · ipureintro; rfl
      iexact HS0
    · iexists _; isplitr; · ipureintro; rfl
      iexact HS1

end Cert.KernelIdeal.Gen

end
-- ==== Proof.Launch.Filled.lean ====
module

public import proofs.«01_k».proof.Proof.Kern.Local
public import proofs.«01_k».proof.Proof.Gen.KernelIdeal.Frame

/-! What the two scratch buffers hold while the grid is walked: after `n` points the first `256 n` keys and values are those
that the points computed. -/

@[expose] public section

set_option maxRecDepth 16384

noncomputable section

namespace Cert.KernelIdeal.Gen

open Idealize.ShloMosaic Idealize.ShloMosaic.TcCoe Idealize.SL.Sem
open Cert.Spec
open scoped BigOperators

/-- The point that computes the key and the value of the position `j`. -/
def pointOf (j : Fin 2048) : Fin cfg0.N := ⟨j.val / 256, lt_of_lt_of_eq (by omega) (show cfg0.N = 8 from N_0).symm⟩

/-- The place of the position `j` in its point's block. -/
def placeOf (j : Fin 2048) : Fin 256 := ⟨j.val % 256, Nat.mod_lt _ (by decide)⟩

/-- All the keys, from the points' blocks. -/
def stackKeys (kt : Fin cfg0.N → FVec Ideal S64x256 .f32) : Vec Ideal S64x2048 .f32 :=
  fun x => kt (pointOf (x 1)) (ix2 (x 0) (placeOf (x 1)))

/-- All the values, from the points' blocks. -/
def stackVals (vb : Fin cfg0.N → FVec Ideal S256x64 .f32) : Vec Ideal S2048x64 .f32 :=
  fun x => vb (pointOf (x 0)) (ix2 (placeOf (x 0)) (x 1))

/-- A key of the stack is its point's, -/
theorem stackKeys_apply (kt : Fin cfg0.N → FVec Ideal S64x256 .f32) (d : Fin 64) (j : Fin 2048) :
    stackKeys kt (ix2 d j) = kt (pointOf j) (ix2 d (placeOf j)) := rfl
/-- and so is a value. -/
theorem stackVals_apply (vb : Fin cfg0.N → FVec Ideal S256x64 .f32) (d : Fin 64) (j : Fin 2048) :
    stackVals vb (ix2 j d) = vb (pointOf j) (ix2 (placeOf j) d) := rfl

/-- The first `256 n` keys and values are the points'. -/
structure Filled (kt : Fin cfg0.N → FVec Ideal S64x256 .f32) (vb : Fin cfg0.N → FVec Ideal S256x64 .f32) (n : ℕ)
    (K : Vec Ideal S64x2048 .f32) (V : Vec Ideal S2048x64 .f32) : Prop where
  keys : ∀ j : Fin 2048, j.val < 256 * n → ∀ d, K (ix2 d j) = stackKeys kt (ix2 d j)
  vals : ∀ j : Fin 2048, j.val < 256 * n → ∀ d, V (ix2 j d) = stackVals vb (ix2 j d)

/-- Before the first point nothing is asked of the scratch arrays. -/
theorem filled_zero (kt : Fin cfg0.N → FVec Ideal S64x256 .f32) (vb : Fin cfg0.N → FVec Ideal S256x64 .f32)
    (K : Vec Ideal S64x2048 .f32) (V : Vec Ideal S2048x64 .f32) : Filled kt vb 0 K V :=
  ⟨fun _ h => absurd h (Nat.not_lt_zero _), fun _ h => absurd h (Nat.not_lt_zero _)⟩

/-- The word of a point's first row. -/
theorem start_val : ∀ n : Fin 8, (Scalar.indexCast (Scalar.muli (BitVec.ofNat 32 n.val) 256#32)).toNat = 256 * n.val := by
  decide

/-- Where a point writes its keys, -/
theorem keyStart (i : grid0.Coords) : k0_off1 i 1 = 256 * (i 0).val := start_val (i 0)
/-- and its values. -/
theorem valStart (i : grid0.Coords) : k0_off2 i 0 = 256 * (i 0).val := start_val (i 0)

/-- A point fills its own blocks and leaves the earlier ones. -/
theorem Filled.step (kt : Fin cfg0.N → FVec Ideal S64x256 .f32) (vb : Fin cfg0.N → FVec Ideal S256x64 .f32) (t : Fin cfg0.N)
    (i : grid0.Coords) (hi : (i 0).val = t.val) (h0 : cond0_0 i → t.val = 0) (K K' : Vec Ideal S64x2048 .f32) (V V' : Vec Ideal S2048x64 .f32)
    (h : Filled kt vb t.val K V) (st : Step (F := Ideal) i (kt t) (vb t) K K' V V') : Filled kt vb (t.val + 1) K' V' where
  keys j hj d := by
    by_cases hlt : j.val < 256 * t.val
    · rw [← h.keys j hlt d]
      refine st.keyKeep _ (Rect.not_mem_set_of_axis (keyRect i) _ 1 (256 * t.val) 256 ((keyStart i).trans (by rw [hi])) rfl rfl (.inl ?_))
      exact hlt
    · have hp : pointOf j = t := Fin.ext (by simp only [pointOf]; omega)
      have he : (keyRect i).emb (ix2 d (placeOf j)) = ix2 d j := by
        refine Rect.emb_eq_of_coords _ _ _ fun a => ?_
        match a with
        | ⟨0, _⟩ => show d.val = 0 + 1 * d.val; omega
        | ⟨1, _⟩ =>
          show j.val = k0_off1 i 1 + 1 * (j.val % 256)
          rw [keyStart, hi]; omega
      rw [stackKeys_apply, hp, ← he]
      exact st.key _
  vals j hj d := by
    by_cases hlt : j.val < 256 * t.val
    · rw [← h.vals j hlt d]
      refine st.valKeep (fun hc => ?_) _ (Rect.not_mem_set_of_axis (valRect i) _ 0 (256 * t.val) 256 ((valStart i).trans (by rw [hi])) rfl rfl (.inl ?_))
      · have := h0 hc; omega
      · exact hlt
    · have hp : pointOf j = t := Fin.ext (by simp only [pointOf]; omega)
      have he : (valRect i).emb (ix2 (placeOf j) d) = ix2 j d := by
        refine Rect.emb_eq_of_coords _ _ _ fun a => ?_
        match a with
        | ⟨0, _⟩ =>
          show j.val = k0_off2 i 0 + 1 * (j.val % 256)
          rw [valStart, hi]; omega
        | ⟨1, _⟩ => show d.val = 0 + 1 * d.val; omega
      rw [stackVals_apply, hp, ← he]
      exact st.val _

end Cert.KernelIdeal.Gen
end
-- ==== Proof.Launch.Run.lean ====
module

public import proofs.«01_k».proof.Proof.Body.RunA
public import proofs.«01_k».proof.Proof.Body.RunB
public import proofs.«01_k».proof.Proof.Launch.Filled
public import Idealize.ShloMosaic.Lib.Claim

/-! The idealized kernel's launch: the block of the result that each point leaves, and the run. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Which points zero the values: the first. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- Each window's current staging memref at point `t`, spelled as the pipeline passes it (`bodyAt0`), and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x8 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x8 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x1024x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S8x256x1024 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x1024 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S64x2048 .f32 := Memref.whole cc0_scratch0
abbrev scM0_1 : Memref sig .tc .vmem S2048x64 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

theorem coord_val (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  rw [e0]; omega

/-- The keys a point computes. -/
def keysAt (c : Dev nD) (t : Fin cfg0.N) : FVec Ideal S64x256 .f32 :=
  keysT (F := Ideal) (iblk m c 0 t) (iblk m c 1 t) (iblk m c 3 t) (iblk m c 4 t) (iblk m c 6 t) (iblk m c 8 t) (iblk m c 9 t)

/-- The values a point computes. -/
def valsAt (c : Dev nD) (t : Fin cfg0.N) : FVec Ideal S256x64 .f32 :=
  valuesB (F := Ideal) (iblk m c 0 t) (iblk m c 1 t) (iblk m c 3 t) (iblk m c 4 t) (iblk m c 7 t)

/-- The block of the result that a point computes, from keys `K` and values `V`. -/
def outOf (c : Dev nD) (t : Fin cfg0.N) (K : Vec Ideal S64x2048 .f32) (V : Vec Ideal S2048x64 .f32) : FVec Ideal S256x1024 .f32 :=
  outBlock (F := Ideal) (grid0.coords t) K V (iblk m c 0 t) (iblk m c 1 t) (iblk m c 2 t) (iblk m c 3 t) (iblk m c 4 t) (iblk m c 5 t)
    (iblk m c 8 t) (iblk m c 9 t) (iblk m c 10 t) (iblk m c 11 t) (iblk m c 12 t) (iblk m c 13 t) (iblk m c 14 t) (iblk m c 15 t) (iblk m c 16 t)

/-- The block of the result that a point leaves: the one from all the keys and values. -/
def outAt (c : Dev nD) (t : Fin cfg0.N) : FVec Ideal S256x1024 .f32 :=
  outOf m c t (stackKeys (keysAt m c)) (stackVals (valsAt m c))

/-- The scratch buffers need to be filled up to the point's own block only. -/
theorem outOf_filled (c : Dev nD) (t : Fin cfg0.N) (K : Vec Ideal S64x2048 .f32) (V : Vec Ideal S2048x64 .f32)
    (h : Filled (keysAt m c) (valsAt m c) (t.val + 1) K V) : outOf m c t K V = outAt m c t :=
  outBlock_congr _ _ _ _ _ _ _ _ _ _ _ _ _ _ _ _ _ _ _ _ (by rw [coord_val]; exact h.keys) (by rw [coord_val]; exact h.vals)

/-- Between the points: the scratch buffers filled as far as the points have run, and the generator's register. -/
def between (c : Dev nD) (n : ℕ) : sProp 𝕄 :=
  iprop((∃ K V, ⌜Filled (keysAt m c) (valsAt m c) n K V⌝ ∗ owns (c : Thread nD τ) scM0_0 fullShare K ∗ owns (c : Thread nD τ) scM0_1 fullShare V)
    ∗ (∃ r, prngReg c r))

/-- The proof data of the pipeline on core `c`: the arrays as the region finds them; after a point each input's buffer at its
    block and the output's at the point's block of the result; between the points `between`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outAt m c t
    | ⟨_ + 18, h⟩ => absurd h (Nat.not_lt.2 (Nat.le_add_left _ _))
  Φ t := between m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 4000000 in
/-- The body at any point: the inputs' buffers hold their blocks; the body's triple of the point's kind applies; it fills the
    scratch buffers one block further and leaves the point's block of the result. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  rw [show (dats m 0 c).Φ t.castSucc = between m c t.val from rfl, show (dats m 0 c).Φ t.succ = between m c (t.val + 1) from rfl]
  unfold between
  have hN : t.val < 8 := lt_of_lt_of_eq t.isLt (show cfg0.N = 8 from N_0)
  by_cases h0 : t.val % 8 = 0
  · iintro ⟨⟨⟨%K, %V, %hF, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runA c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) K V) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [HS0]; · iexact HS0
    isplitl [HS1]; · iexact HS1
    iintro ⟨H0, H1, H2, H3, H4, H5, H6, H7, H8, H9, H10, H11, H12, H13, H14, H15, H16, ⟨%K', %V', %hS, ⟨%d17, H17, %hd⟩, HS0, HS1⟩⟩
    have hF' : Filled (keysAt m c) (valsAt m c) (t.val + 1) K' V' :=
      Filled.step (keysAt m c) (valsAt m c) t (grid0.coords t) (coord_val t) (fun h => by have := (hcond0_0 t).mp h; omega) K K' V V' hF hS
    obtain rfl : d17 = outAt m c t := hd.trans (outOf_filled m c t K' V' hF')
    isplitl [HS0 HS1 Hg]
    · isplitl [HS0 HS1]
      · iexists K'; iexists V'
        isplitr
        · ipureintro; exact hF'
        isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro ⟨⟨⟨%K, %V, %hF, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runB c (grid0.coords t) _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) K V) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [HS0]; · iexact HS0
    isplitl [HS1]; · iexact HS1
    iintro ⟨H0, H1, H2, H3, H4, H5, H6, H7, H8, H9, H10, H11, H12, H13, H14, H15, H16, ⟨%K', %V', %hS, ⟨%d17, H17, %hd⟩, HS0, HS1⟩⟩
    have hF' : Filled (keysAt m c) (valsAt m c) (t.val + 1) K' V' :=
      Filled.step (keysAt m c) (valsAt m c) t (grid0.coords t) (coord_val t) (fun h => by have := (hcond0_0 t).mp h; omega) K K' V V' hF hS
    obtain rfl : d17 = outAt m c t := hd.trans (outOf_filled m c t K' V' hF')
    isplitl [HS0 HS1 Hg]
    · isplitl [HS0 HS1]
      · iexists K'; iexists V'
        isplitr
        · ipureintro; exact hF'
        isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The region is entered with any scratch buffers, -/
theorem enter (c : Dev nD) : (Pipeline.ΦA spec0 c : sProp 𝕄) ⊢ (dats m 0 c).Φ 0 := by
  rw [show (dats m 0 c).Φ 0 = between m c 0 from rfl, PhiA0_eq]
  unfold between
  iintro ⟨⟨⟨%K, HS0⟩, ⟨%V, HS1⟩⟩, Hg⟩
  isplitl [HS0 HS1]
  · iexists K; iexists V
    isplitr
    · ipureintro; exact filled_zero _ _ K V
    isplitl [HS0]
    · iexact HS0
    iexact HS1
  iexact Hg

/-- and left with some. -/
theorem leave (c : Dev nD) : (dats m 0 c).Φ (Fin.last cfg0.N) ⊢ (Pipeline.ΦA spec0 c : sProp 𝕄) := by
  rw [show (dats m 0 c).Φ (Fin.last cfg0.N) = between m c cfg0.N from rfl, PhiA0_eq]
  unfold between
  iintro ⟨⟨%K, %V, -, HS0, HS1⟩, Hg⟩
  isplitl [HS0 HS1]
  · isplitl [HS0]
    · iexists K; iexact HS0
    iexists V; iexact HS1
  iexact Hg

set_option backward.isDefEq.respectTransparency.types false in
set_option maxHeartbeats 800000 in
/-- The run: every weakly fair execution ends, with the arrays as the proof data say, what follows the region computed from
    them, and every semaphore at zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

end Cert.KernelIdeal.Gen

end
-- ==== Proof.Launch.Value.lean ====
module

public import proofs.«01_k».proof.Proof.Launch.Blocks
public import proofs.«01_k».proof.Proof.Launch.Run

/-! The idealized kernel's result: the block's result, for real scores. -/

@[expose] public section

set_option maxRecDepth 16384

noncomputable section

namespace Cert.KernelIdeal.Gen

open Idealize.ShloMosaic Idealize.ShloMosaic.TcCoe Idealize.SL.Sem Idealize.ShloMosaic.Tactic
open Cert.Spec
open scoped BigOperators

variable (m : (ℓ : Loc nD τ sig) → Buf (Elt Ideal) ℓ) (c : Dev nD)

/-- Every row is a place of some point's block. -/
theorem rowAt_place (j : Fin 2048) : rowAt (pointOf j) (placeOf j) = j := Fin.ext (by
  show 256 * (j.val / 256) + j.val % 256 = j.val
  omega)

/-- The points' keys together are the keys, -/
theorem keys_all (j : Fin 2048) (d : Fin 64) : stackKeys (keysAt m c) (ix2 d j) = (inputs m c).k j d := by
  rw [stackKeys_apply]
  refine ((reads_at m c (pointOf j)).keys (placeOf j) d).trans ?_
  rw [rowAt_place]

/-- and their values the values. -/
theorem values_all (j : Fin 2048) (d : Fin 64) : stackVals (valsAt m c) (ix2 j d) = (inputs m c).v j d := by
  rw [stackVals_apply]
  refine ((reads_at m c (pointOf j)).values (placeOf j) d).trans ?_
  rw [rowAt_place]

/-- What a point leaves in its block of the result. -/
theorem outAt_apply (H : (inputs m c).Finite) (t : Fin cfg0.N) (r : Fin 256) (k : Fin 1024) :
    outAt m c t (ix2 r k) = (inputs m c).out (rowAt t r) k :=
  (reads_at m c t).out (grid0.coords t) (fun r => by rw [coord_val]; rfl) H _ _ (keys_all m c) (values_all m c) r k

/-- The array of the result after the launch. -/
theorem array_result (H : (inputs m c).Finite) :
    (dats m 0 c).arrAt 17 (cfgs 0).N = (fun i => (inputs m c).out (i 0) (i 1) : FVec Ideal S2048x1024 .f32) := by
  refine (dats m 0 c).arrAt_eq_of_covers 17 _ (by decide +kernel) fun t _ y => ?_
  blk_simp
  rw [after0_17]
  refine (congrArg (outAt m c t) (eq_ix2 (show S256x1024.Idx from y))).trans
    ((outAt_apply m c H t _ _).trans (congrArg₂ (inputs m c).out (Fin.ext ?_) (Fin.ext ?_)))
  · blk_simp [idx_moving t]
    show 256 * t.val + _ = _
    omega
  · blk_simp [idx_moving t]

/-- The host's reshape puts the rows of the array under a leading axis of size one. -/
theorem reshape_rows (G : FVec Ideal S2048x1024 .f32) (a : Fin 1) (s : Fin 2048) (k : Fin 1024) :
    shapeCast S1x2048x1024 G shapeCasts_S2048x1024_S1x2048x1024 (ix3 a s k) = G (ix2 s k) := by
  pointwise

/-- The result, reshaped from the array. -/
theorem tail_result (H : (inputs m c).Finite) :
    Pipeline.afterTail₀ cfgs (dats m) 0 (V0 m) [hostOps1] c main_v90
      = (fun i => (inputs m c).out (i 1) (i 2) : FVec Ideal S1x2048x1024 .f32) := by
  have ha : Pipeline.withArrays (cfgs 0).spec c (V0 m c) (fun w => (dats m 0 c).arrAt w (cfgs 0).N) (Proc.devRef .tc main_v89)
      = (fun i => (inputs m c).out (i 0) (i 1) : FVec Ideal S2048x1024 .f32) :=
    (Pipeline.withArrays_arr (cfgs 0).spec launch0.win.arr_inj c (V0 m c) (fun w => (dats m 0 c).arrAt w (cfgs 0).N) 17).trans (array_result m c H)
  unfold Pipeline.afterTail₀
  show StableHlo.after hostOps1 _ _ = _
  unfold hostOps1
  after_results
  rw [ha]
  funext i
  exact (congrArg (shapeCast S1x2048x1024 (fun i => (inputs m c).out (i 0) (i 1) : FVec Ideal S2048x1024 .f32) shapeCasts_S2048x1024_S1x2048x1024)
    (eq_ix3 (show S1x2048x1024.Idx from i))).trans (reshape_rows _ _ _ _)

end Cert.KernelIdeal.Gen
end
-- ==== Proof.Launch.Claims.lean ====
module

public import proofs.«01_k».proof.Proof.Launch.Value

/-! The kernel's claims: its run ends quiet with the arguments unchanged, and with the block's output in the result. -/

@[expose] public section

noncomputable section

namespace Cert.KernelIdeal.Gen

open Idealize.ShloMosaic Idealize.ShloMosaic.TcCoe Idealize.SL.Sem
open Cert.Spec

variable (m : (ℓ : Loc nD τ sig) → Buf (Elt Ideal) ℓ) (ρ : Dev nD → PrngReg)

/-- The arguments end unchanged. -/
theorem args_unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) ((θ_run defs _ _).mono (fun _ h => h.1) (run_main m ρ))

/-- Every semaphore ends at zero. -/
theorem counters_zero : θ_run defs (onTc (τ := τ) (main (F := Ideal))) ⟨m, fun _ => 0, ρ⟩ (fun r => r.2.sem = fun _ => 0) :=
  (θ_run defs _ _).mono (fun _ h => h.2) (run_main m ρ)

/-- The result the kernel ends with, for inputs whose scores are finite. -/
theorem result_value (H : ∀ c, (inputs m c).Finite) : θ_run defs (onTc (τ := τ) (main (F := Ideal))) ⟨m, fun _ => 0, ρ⟩ (fun r => ∀ c : Dev nD,
      r.2.mem ((c.tc : Thread nD τ).loc main_v90) = (fun i => (inputs m c).out (i 1) (i 2) : FVec Ideal S1x2048x1024 .f32)) :=
  (θ_run defs _ _).mono
    (fun _ h c => ((h.1 c).2 main_v90 (Pipeline.mem_restRefs_of main_v90 (by decide) (by decide))).trans (tail_result m c (H c)))
    (run_main m ρ)

end Cert.KernelIdeal.Gen
end
-- ==== Proof.Launch.Pre.lean ====
module

public import proofs.«01_k».proof.Defs
public import proofs.«01_k».proof.Proof.Gen.Pre_finite_scores
public import proofs.«01_k».proof.Proof.Launch.Host
public import Idealize.ShloMosaic.Lib.ReduceAll
public import Idealize.ShloMosaic.Lib.Pointwise

/-! The precondition read back: the inputs of the scores are real, and every position lies in the reference's table. -/

@[expose] public section

noncomputable section

namespace Cert.KernelIdeal.Gen

open Idealize.ShloMosaic Idealize.ShloMosaic.TcCoe Idealize.SL.Sem Idealize.ShloMosaic.Tactic
open Cert.Spec

/-- The word of +infinity denotes the top of the extended reals. -/
theorem infinity_top : Ideal.ofBits .f32 0x7F800000#32 = ⊤ := by simp [Ideal.ofBits, Ideal.ieee]

/-- An extended real whose absolute value is below +infinity is real. -/
theorem isReal_of_abs_lt (x : EReal) (h : Ideal.cmp .olt (max x (-x)) (Ideal.ofBits .f32 0x7F800000#32) = 1#1) : IsReal x := by
  rw [infinity_top] at h
  have h' : max x (-x) < ⊤ := (Ideal.cmp_olt_eq_one _ _).1 h
  obtain ⟨h1, h2⟩ := max_lt_iff.1 h'
  exact isReal_of_ne h1.ne fun hb => by subst hb; simp at h2

/-- Where every bit of the comparison of `|x|` with +infinity reduces to 1, every element of `x` is real. -/
theorem isReal_of_all {s t u : Shape} {axes : List (Fin s.rank)} [Subsingleton t.Idx] (x : FVec Ideal s .f32) (b : FVec Ideal s .f32)
    (hb : ∀ i, b i = Ideal.ofBits .f32 0x7F800000#32) (init : u.Idx → BitVec 1) (h : s.ReducesTo axes t) (hu : 0 < u.numel) (j : t.Idx)
    (e : Host.reduce IntOp.andi (cmpf .olt (Host.absf x) b) init h hu j = 1#1) (i : s.Idx) : IsReal (x i) := by
  have h1 := Host.reduce_andi_all _ _ _ _ j e i
  refine isReal_of_abs_lt _ ?_
  rw [← hb i]
  exact h1

variable (m : (ℓ : Loc nD τ sig) → Buf (Elt Ideal) ℓ) (c : Dev nD)

section
variable [Cert.Pre_finite_scores.Facts]
open Cert.Pre_finite_scores in
/-- The predicate at 1: each of its reductions is 1. -/
theorem fn_split (a0 : FVec Ideal S1x2048x1024 .f32) (a1 a2 : FVec Ideal S1024 .f32) (a3 : FVec Ideal S1024x8 .f32) (a4 : FVec Ideal S8 .f32)
    (a5 a6 a7 : FVec Ideal S8x1024x64 .f32) (a8 : FVec Ideal S8x64x1024 .f32) (a9 a10 : FVec Ideal S1024 .f32) (a11 : FVec Ideal S1024x8 .f32)
    (a12 : FVec Ideal S8 .f32) (a13 : FVec Ideal S8x1024x256 .f32) (a14 : FVec Ideal S8x256x1024 .f32) (a15 : IVec S1x2048 32)
    (e : fn (F := Ideal) a0 a1 a2 a3 a4 a5 a6 a7 a8 a9 a10 a11 a12 a13 a14 a15 = fun _ => 1#1) :
    (∀ i, 0 ≤ (a15 i).toInt ∧ (a15 i).toInt < 4096) ∧ (∀ i, IsReal (a1 i)) ∧ (∀ i, IsReal (a2 i)) ∧ (∀ i, IsReal (a5 i)) ∧ ∀ i, IsReal (a6 i) := by
  have e0 := congrFun e ix0
  obtain ⟨h1, h2⟩ := IntOp.andi_eq_one.1 e0
  obtain ⟨hp, hw⟩ := IntOp.andi_eq_one.1 h1
  obtain ⟨ha, hb⟩ := IntOp.andi_eq_one.1 hw
  obtain ⟨hq, hk⟩ := IntOp.andi_eq_one.1 h2
  refine ⟨fun i => ?_, isReal_of_all a1 _ (fun _ => rfl) _ _ _ _ ha, isReal_of_all a2 _ (fun _ => rfl) _ _ _ _ hb,
    isReal_of_all a5 _ (fun _ => rfl) _ _ _ _ hq, isReal_of_all a6 _ (fun _ => rfl) _ _ _ _ hk⟩
  obtain ⟨hl, hu⟩ := IntOp.andi_eq_one.1 (Host.reduce_andi_all _ _ _ _ _ hp i)
  exact ⟨IntOp.cmpi_sge.1 hl, IntOp.cmpi_slt.1 hu⟩

variable (H : Cert.Pre_KernelIdeal_finite_scores m)
include H

/-- The inputs of the scores are real. -/
theorem pre_finite : (inputs m c).Finite :=
  have h := (fn_split _ _ _ _ _ _ _ _ _ _ _ _ _ _ _ _ (H c)).2
  ⟨fun k => h.1 _, fun k => h.2.1 _, fun e k d => h.2.2.1 _, fun e k d => h.2.2.2 _⟩

/-- Every position lies in the table. -/
theorem pre_pos (s : Fin 2048) : 0 ≤ ((inputs m c).pos s).toInt ∧ ((inputs m c).pos s).toInt < 4096 :=
  (fn_split _ _ _ _ _ _ _ _ _ _ _ _ _ _ _ _ (H c)).1 _
end

end Cert.KernelIdeal.Gen
end
-- ==== Proof.Ref.Gate.lean ====
module

public import proofs.«01_k».proof.Proof.Gen.ReferenceIdeal.Run
public import proofs.«01_k».proof.Proof.Spec.Model
public import Idealize.ShloMosaic.Lib.Pointwise

/-! The reference's gates over the extended reals: the weights of a row are the weights of its scores. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Spec
open scoped BigOperators

/-- The scores, those below zero as zero. -/
def reluR (L : FVec Ideal S2048x8 .f32) : FVec Ideal S2048x8 .f32 :=
  maximumf L (broadcastInDim S2048x8 ![] bcast_S_S2048x8 (constant S_ .f32 0x00000000#32))

/-- One where a score is above zero. -/
def positiveR (L : FVec Ideal S2048x8 .f32) : FVec Ideal S2048x8 .f32 :=
  uitofp .f32 (cmpf .ogt (reluR L) (broadcastInDim S2048x8 ![] bcast_S_S2048x8 (constant S_ .f32 0x00000000#32)))

/-- The positions of the two greatest scores of each row. -/
def topR (L : FVec Ideal S2048x8 .f32) : IVec S2048x2 32 :=
  (Host.topK S2048x2 1 (FloatOps.cmpfTotal (F := Ideal) (φ := .f32) .gt) L sliceFits_S2048x8_S2048x2).2

/-- The experts in use: those whose score is above zero, or the two greatest where there is none. -/
def maskR (L : FVec Ideal S2048x8 .f32) : FVec Ideal S2048x8 .f32 :=
  select (broadcastInDim S2048x8 ![0, 1] bcast_S2048x1_S2048x8_0_1 (broadcastInDim S2048x1 ![0] bcast_S2048_S2048x1_0 (cmpf .oeq (Host.reduceAdd (positiveR L) (constant S_ .f32 0x00000000#32) reducesTo_S2048x8_S2048_d1 h_S_) (broadcastInDim S2048 ![] bcast_S_S2048 (constant S_ .f32 0x00000000#32))))) (minimumf (Host.reduceAdd (uitofp .f32 (cmpi .eq (broadcastInDim S2048x2x8 ![0, 1, 2] bcast_S2048x2x1_S2048x2x8_0_1_2 (broadcastInDim S2048x2x1 ![0, 1] bcast_S2048x2_S2048x2x1_0_1 (topR L))) (broadcastInDim S2048x2x8 ![0, 1, 2] bcast_S1x1x8_S2048x2x8_0_1_2 (iotaInDim S1x1x8 32 2)))) (constant S_ .f32 0x00000000#32) reducesTo_S2048x2x8_S2048x8_d1 h_S_) (broadcastInDim S2048x8 ![] bcast_S_S2048x8 (constant S_ .f32 0x3F800000#32))) (positiveR L)

/-- What the softmax is taken of. -/
def gatedR (L : FVec Ideal S2048x8 .f32) : FVec Ideal S2048x8 .f32 :=
  select (cmpf .ogt (maskR L) (broadcastInDim S2048x8 ![] bcast_S_S2048x8 (constant S_ .f32 0x00000000#32))) (reluR L) (broadcastInDim S2048x8 ![] bcast_S_S2048x8 (id (constant S_ .f32 0xFF800000#32)))

/-- The numerators of the softmax. -/
def expR (L : FVec Ideal S2048x8 .f32) : FVec Ideal S2048x8 .f32 :=
  Host.exp (subf (gatedR L) (broadcastInDim S2048x8 ![0, 1] bcast_S2048x1_S2048x8_0_1 (broadcastInDim S2048x1 ![0] bcast_S2048_S2048x1_0 (maximumf (broadcastInDim S2048 ![] bcast_S_S2048 (constant S_ .f32 0xFF800000#32)) (Host.reduce FloatOps.maximumf (gatedR L) (constant S_ .f32 0xFF800000#32) reducesTo_S2048x8_S2048_d1 h_S_)))))

/-- The weights. -/
def weightR (L : FVec Ideal S2048x8 .f32) : FVec Ideal S2048x8 .f32 :=
  mulf (Host.divf (expR L) (broadcastInDim S2048x8 ![0, 1] bcast_S2048x1_S2048x8_0_1 (broadcastInDim S2048x1 ![0] bcast_S2048_S2048x1_0 (Host.reduceAdd (expR L) (constant S_ .f32 0x00000000#32) reducesTo_S2048x8_S2048_d1 h_S_)))) (maskR L)

/-- The attention's weights are the weights of its scores. -/
theorem v78_eq (V0 : Valuation τ sig (Elt Ideal)) : res_main_v78 V0 = weightR (res_main_v50 V0) := rfl

/-- The first two positions of the sorted scores. -/
theorem topR_apply (L : FVec Ideal S2048x8 .f32) (s : Fin 2048) (h : Above fun e => L (ix2 s e)) (i : Fin 2) :
    topR L (ix2 s i) = BitVec.ofNat 32 ((![first fun e => L (ix2 s e), second fun e => L (ix2 s e)] : Fin 2 → Fin 8) i).val := by
  rw [← sorted_two h i]
  unfold topR Host.topK Host.sort2
  simp only [dif_pos (show 1 < S2048x8.rank by decide)]
  unfold extractStridedSlice
  show BitVec.ofNat 32 (sortedFrom _ _ : Fin 8).val = _
  refine congrArg (fun k : Fin 8 => BitVec.ofNat 32 k.val) ?_
  refine congr (congrArg sortedFrom ?_) ?_
  · funext k k'
    refine congrArg₂ (fun x y => (Ideal.cmpTotal .gt x y == 1#1)) (congrArg L ?_) (congrArg L ?_) <;>
      (funext a; refine Fin.ext ?_; fin_cases a <;> simp [Shape.Idx.along])
  · refine Fin.ext ?_
    simp

/-- A condition's bit, converted. -/
theorem uitofp_bit (p : Prop) [Decidable p] :
    FloatOps.uitofp (F := Idealize.ShloMosaic.Ideal) .f32 (BitVec.ofBool (decide p)) = bit p := by
  by_cases h : p
  · rw [bit, if_pos h, decide_eq_true h]
    show (((1#1 : BitVec 1).toNat : ℝ) : EReal) = 1
    norm_num
  · rw [bit, if_neg h, decide_eq_false h]
    show (((0#1 : BitVec 1).toNat : ℝ) : EReal) = 0
    norm_num

/-- Two bits' sum, at most one, is the bit of either. -/
theorem min_bits (p q : Prop) : min (bit p + bit q) 1 = bit (p ∨ q) := by
  by_cases hp : p <;> by_cases hq : q <;> simp [bit, hp, hq]
  rw [show (1 : EReal) = ((1 : ℝ) : EReal) by simp, ← EReal.coe_add, EReal.coe_le_coe_iff]
  norm_num

/-- The indicator of a condition is positive exactly where it holds. -/
theorem bit_pos (p : Prop) : 0 < bit p ↔ p := by
  by_cases hp : p <;> simp [bit, hp]

/-- No score is above zero when the greatest is not. -/
theorem sum_positive (z : Fin 8 → EReal) : (∑ e, bit (0 < z e) = 0) ↔ z (first z) ≤ 0 := by
  rw [Finset.sum_eq_zero_iff_of_nonneg fun e _ => (by unfold bit; split <;> simp : (0 : EReal) ≤ bit (0 < z e))]
  constructor
  · intro h
    have := h (first z) (Finset.mem_univ _)
    by_contra hn
    rw [bit, if_pos (not_le.mp hn)] at this
    exact one_ne_zero this
  · intro h e _
    exact if_neg (not_lt.mpr (((first_spec z).le e).trans h))

/-- The indicator that a logit is positive. -/
theorem positiveR_apply (L : FVec Ideal S2048x8 .f32) (s : Fin 2048) (e : Fin 8) : positiveR L (ix2 s e) = bit (0 < L (ix2 s e)) := by
  pointwise [positiveR, reluR]
  rw [uitofp_bit]
  have : 0 < max (L (ix2 s e)) 0 ↔ 0 < L (ix2 s e) := by
    rw [lt_max_iff]; exact or_iff_left (lt_irrefl _)
  exact congrArg bit (propext this)

/-- The mask is one at the chosen experts of the row's scores, zero at the rest. -/
theorem maskR_apply (L : FVec Ideal S2048x8 .f32) (s : Fin 2048) (h : Above fun e => L (ix2 s e)) (e : Fin 8) :
    maskR L (ix2 s e) = bit (chosen (fun e => L (ix2 s e)) e) := by
  pointwise [maskR]
  simp only [positiveR_apply, topR_apply L s h, cmpi_position]
  rw [chosen]
  by_cases h0 : L (ix2 s (first fun e => L (ix2 s e))) ≤ 0
  · rw [if_pos ((sum_positive fun e => L (ix2 s e)).mpr h0), if_pos h0]
    simp only [uitofp_bit]
    rw [Fin.sum_univ_two]
    refine (min_bits _ _).trans ?_
    refine congrArg bit ?_
    simp [eq_comm]
  · rw [if_neg fun hn => h0 ((sum_positive fun e => L (ix2 s e)).mp hn), if_neg h0]

/-- The fill of an expert that is not chosen is the bottom. -/
theorem fill_low : (constant (F := Ideal) S_ FTy.f32 4286578688#32) ix0 = (⊥ : EReal) := ofBits_neg_inf

/-- The weights of a row are the weights of its scores. -/
theorem weightR_apply (L : FVec Ideal S2048x8 .f32) (s : Fin 2048) (h : Above fun e => L (ix2 s e)) (e : Fin 8) :
    weightR L (ix2 s e) = weight (fun e => L (ix2 s e)) e := by
  pointwise [weightR, expR, gatedR, reluR]
  have hg : ∀ x (d : Decidable (0 < maskR L (ix2 s x))),
      @ite _ _ d (max (L (ix2 s x)) 0) (id (constant (F := Ideal) S_ FTy.f32 4286578688#32) ix0) = gated (fun e => L (ix2 s e)) x := by
    intro x d
    have hm := maskR_apply L s h x
    by_cases hc : chosen (fun e => L (ix2 s e)) x
    · rw [if_pos (by rw [hm, bit, if_pos hc]; exact zero_lt_one), gated, if_pos hc]
    · rw [if_neg (by rw [hm, bit, if_neg hc]; exact lt_irrefl _), gated, if_neg hc]; exact fill_low
  simp only [hg]
  simp only [maskR_apply L s h, ofBits_neg_inf, bot_le, sup_of_le_right, max_eq_right]
  rfl

end Cert.ReferenceIdeal.Value
end
-- ==== Proof.Ref.Rows.lean ====
module

public import proofs.«01_k».proof.Proof.Ref.Gate

/-! The reference's operations over the extended reals, row by row: the normalisation, the gates' scores, the mixed
projections, the rotation, the table of angles. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Spec
open scoped BigOperators

/-- The rows' means. -/
def meanR (X : FVec Ideal S1x2048x1024 .f32) : FVec Ideal S1x2048x1 .f32 :=
  Host.divf (broadcastInDim S1x2048x1 ![0, 1] bcast_S1x2048_S1x2048x1_0_1 (Host.reduceAdd X (constant S_ .f32 0x00000000#32) reducesTo_S1x2048x1024_S1x2048_d2 h_S_)) (broadcastInDim S1x2048x1 ![] bcast_S_S1x2048x1 (constant S_ .f32 0x44800000#32))

/-- The rows less their means. -/
def centredR (X : FVec Ideal S1x2048x1024 .f32) : FVec Ideal S1x2048x1024 .f32 :=
  subf X (broadcastInDim S1x2048x1024 ![0, 1, 2] bcast_S1x2048x1_S1x2048x1024_0_1_2 (meanR X))

/-- The normalised rows. -/
def normR (X : FVec Ideal S1x2048x1024 .f32) (w b : FVec Ideal S1024 .f32) : FVec Ideal S2048x1024 .f32 :=
  shapeCast _ (addf (mulf (Host.divf (subf X (broadcastInDim S1x2048x1024 ![0, 1, 2] bcast_S1x2048x1_S1x2048x1024_0_1_2 (meanR X))) (broadcastInDim S1x2048x1024 ![0, 1, 2] bcast_S1x2048x1_S1x2048x1024_0_1_2 (Host.sqrt (addf (Host.divf (broadcastInDim S1x2048x1 ![0, 1] bcast_S1x2048_S1x2048x1_0_1 (Host.reduceAdd (mulf (centredR X) (centredR X)) (constant S_ .f32 0x00000000#32) reducesTo_S1x2048x1024_S1x2048_d2 h_S_)) (broadcastInDim S1x2048x1 ![] bcast_S_S1x2048x1 (constant S_ .f32 0x44800000#32))) (broadcastInDim S1x2048x1 ![] bcast_S_S1x2048x1 (constant S_ .f32 0x3727C5AC#32)))))) (broadcastInDim S1x2048x1024 ![0, 1, 2] bcast_S1x1x1024_S1x2048x1024_0_1_2 (broadcastInDim S1x1x1024 ![2] bcast_S1024_S1x1x1024_2 w))) (broadcastInDim S1x2048x1024 ![0, 1, 2] bcast_S1x1x1024_S1x2048x1024_0_1_2 (broadcastInDim S1x1x1024 ![2] bcast_S1024_S1x1x1024_2 b))) shapeCasts_S1x2048x1024_S2048x1024

/-- The term of the normalised rows, -/
theorem v24_eq (V0 : Valuation τ sig (Elt Ideal)) :
    res_main_v24 V0 = normR (V0 (Proc.devRef .tc main_arg0)) (V0 (Proc.devRef .tc main_arg1)) (V0 (Proc.devRef .tc main_arg2)) := rfl
/-- and of the rows normalised after the attention. -/
theorem v189_eq (V0 : Valuation τ sig (Elt Ideal)) :
    res_main_v189 V0 = normR (res_main_v164 V0) (V0 (Proc.devRef .tc main_arg9)) (V0 (Proc.devRef .tc main_arg10)) := rfl

/-- The mean of a row. -/
theorem meanR_apply (X : FVec Ideal S1x2048x1024 .f32) (s : Fin 2048) : meanR X (ix3 0 s 0) = mean fun k => X (ix3 0 s k) := by
  pointwise [meanR]
  rfl

/-- A normalised row is the normalisation of the row. -/
theorem normR_apply (X : FVec Ideal S1x2048x1024 .f32) (w b : FVec Ideal S1024 .f32) (s : Fin 2048) (c : Fin 1024) :
    normR X w b (ix2 s c) = norm (fun k => X (ix3 0 s k)) (fun k => w (ix1 k)) (fun k => b (ix1 k)) c := by
  pointwise [normR, centredR]
  simp only [meanR_apply]
  rfl

/-- The scores. -/
def logitR (h : FVec Ideal S2048x1024 .f32) (S : FVec Ideal S1024x8 .f32) (g : FVec Ideal S8 .f32) : FVec Ideal S2048x8 .f32 :=
  subf (Host.dotGeneral dot_S2048x1024_S1024x8_S2048x8_1_0_0_1_n_n none (Host.divf h (broadcastInDim S2048x1024 ![0, 1] bcast_S2048x1_S2048x1024_0_1 (maximumf (Host.sqrt (broadcastInDim S2048x1 ![0] bcast_S2048_S2048x1_0 (Host.reduceAdd (mulf h h) (constant S_ .f32 0x00000000#32) reducesTo_S2048x1024_S2048_d1 h_S_))) (broadcastInDim S2048x1 ![] bcast_S_S2048x1 (constant S_ .f32 0x2B8CBCCC#32))))) (Host.divf S (broadcastInDim S1024x8 ![0, 1] bcast_S1x8_S1024x8_0_1 (maximumf (Host.sqrt (broadcastInDim S1x8 ![1] bcast_S8_S1x8_1 (Host.reduceAdd (mulf S S) (constant S_ .f32 0x00000000#32) reducesTo_S1024x8_S8_d0 h_S_))) (broadcastInDim S1x8 ![] bcast_S_S1x8 (constant S_ .f32 0x2B8CBCCC#32)))))) (broadcastInDim S2048x8 ![0, 1] bcast_S1x8_S2048x8_0_1 (broadcastInDim S1x8 ![1] bcast_S8_S1x8_1 (Host.divf (broadcastInDim S8 ![] bcast_S_S8 (constant S_ .f32 0x3F800000#32)) (addf (broadcastInDim S8 ![] bcast_S_S8 (constant S_ .f32 0x3F800000#32)) (Host.exp (Host.negf g))))))

/-- The term of the attention gate's logits, -/
theorem v50_eq (V0 : Valuation τ sig (Elt Ideal)) :
    res_main_v50 V0 = logitR (res_main_v24 V0) (V0 (Proc.devRef .tc main_arg3)) (V0 (Proc.devRef .tc main_arg4)) := rfl
/-- and of the experts' gate's. -/
theorem v215_eq (V0 : Valuation τ sig (Elt Ideal)) :
    res_main_v215 V0 = logitR (res_main_v189 V0) (V0 (Proc.devRef .tc main_arg11)) (V0 (Proc.devRef .tc main_arg12)) := rfl

/-- A row's scores are the scores of the row. -/
theorem logitR_apply (h : FVec Ideal S2048x1024 .f32) (S : FVec Ideal S1024x8 .f32) (g : FVec Ideal S8 .f32) (s : Fin 2048) (e : Fin 8) :
    logitR h S g (ix2 s e) = logit (fun k => h (ix2 s k)) (fun k e => S (ix2 k e)) (fun e => g (ix1 e)) e := by
  pointwise [logitR]
  rfl

/-- A row's weights are the gate's of the row. -/
theorem gateR_apply (h : FVec Ideal S2048x1024 .f32) (S : FVec Ideal S1024x8 .f32) (g : FVec Ideal S8 .f32) (s : Fin 2048) (e : Fin 8) :
    weightR (logitR h S g) (ix2 s e) = gate (fun k => h (ix2 s k)) (fun k e => S (ix2 k e)) (fun e => g (ix1 e)) e := by
  have hl : (fun e => logitR h S g (ix2 s e)) = logit (fun k => h (ix2 s k)) (fun k e => S (ix2 k e)) (fun e => g (ix1 e)) :=
    funext fun e => logitR_apply h S g s e
  rw [weightR_apply _ s (by rw [hl]; exact above_logit _ _ _), hl]
  rfl

/-- The mixed projections. -/
def mixR (w : FVec Ideal S2048x8 .f32) (h : FVec Ideal S2048x1024 .f32) (W : FVec Ideal S8x1024x64 .f32) : FVec Ideal S1x2048x64 .f32 :=
  shapeCast _ (Host.dotGeneral dot_S2048x8_S8x64x2048_S2048x64_1_0_n_1_0_2 none w (Host.dotGeneral dot_S8x1024x64_S2048x1024_S8x64x2048_1_1_02_0_n_n none W h)) shapeCasts_S2048x64_S1x2048x64

/-- A row's projection is the mixture of the experts' of the row. -/
theorem mixR_apply (w : FVec Ideal S2048x8 .f32) (h : FVec Ideal S2048x1024 .f32) (W : FVec Ideal S8x1024x64 .f32) (s : Fin 2048) (d : Fin 64) :
    mixR w h W (ix3 0 s d) = mix (fun e => w (ix2 s e)) (fun k => h (ix2 s k)) (fun e k d => W (ix3 e k d)) d := by
  pointwise [mixR]
  refine Finset.sum_congr rfl fun e _ => congrArg _ (Finset.sum_congr rfl fun k _ => mul_comm _ _)

/-- The rotated projections. -/
def ropeR (q cs sn : FVec Ideal S1x2048x64 .f32) : FVec Ideal S1x2048x64 .f32 :=
  addf (mulf q cs) (mulf (concatenate S1x2048x64 2 [⟨S1x2048x32, (Host.negf (extractStridedSlice S1x2048x32 ![0, 0, 32] q slices_S1x2048x64_S1x2048x32_0_0_32))⟩, ⟨S1x2048x32, (extractStridedSlice S1x2048x32 ![0, 0, 0] q slices_S1x2048x64_S1x2048x32_0_0_0)⟩] concatenates_S1x2048x32_S1x2048x32_S1x2048x64_d2) sn)

/-- A row, turned by its angles. -/
theorem ropeR_apply (q cs sn : FVec Ideal S1x2048x64 .f32) (s : Fin 2048) (d : Fin 64) :
    ropeR q cs sn (ix3 0 s d) = rope (fun d => q (ix3 0 s d)) (fun d => cs (ix3 0 s d)) (fun d => sn (ix3 0 s d)) d := by
  pointwise [ropeR]
  rfl

end Cert.ReferenceIdeal.Value
end
-- ==== Proof.Ref.Angle.lean ====
module

public import proofs.«01_k».proof.Proof.Ref.Rows
public import proofs.«01_k».proof.Proof.Spec.Whole

/-! The reference's rotation: the table of the positions' angles, read at a position that lies in it. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Spec
open scoped BigOperators

/-- The table holds the positions' angles. -/
theorem table_apply (V0 : Valuation τ sig (Elt Ideal)) (p : Fin 4096) (d : Fin 64) :
    (show FVec Ideal S4096x64 .f32 from res_main_v105 V0) (ix2 p d) = angle (BitVec.ofNat 32 p.val) d := by
  pointwise [res_main_v105, res_main_v104]
  rfl

/-- A row of the table, taken at a word: the row the word names, or the nearest there is. -/
theorem gather_rows (x : FVec Ideal S4096x64 .f32) (idx : IVec S1x2048x1 32) (s : Fin 2048) (d : Fin 64) :
    Host.gather gather_S4096x64_S1x2048x1_S1x2048x64_2_0_n_n_0_2_164 x idx (ix3 0 s d)
      = x (ix2 ⟨min (idx (ix3 0 s 0)).toInt.toNat 4095, by omega⟩ d) := by
  unfold Host.gather
  congr 1
  funext a
  refine Fin.ext ?_
  fin_cases a
  · show min (idx _).toInt.toNat (4096 - 1) + 0 + 0 = min (idx (ix3 0 s 0)).toInt.toNat 4095
    refine congrArg (fun j => min (idx j).toInt.toNat 4095) ?_
    funext b
    refine Fin.ext ?_
    fin_cases b <;> rfl
  · show 0 + 0 + d.val = d.val
    omega

/-- The word that a position reads the table at. -/
def wordR (p : IVec S1x2048 32) : IVec S1x2048x1 32 :=
  broadcastInDim S1x2048x1 ![0, 1] bcast_S1x2048_S1x2048x1_0_1 (select (cmpi .slt p (broadcastInDim S1x2048 ![] bcast_S_S1x2048 (constantI S_ 32 0#32))) (addi p (broadcastInDim S1x2048 ![] bcast_S_S1x2048 (constantI S_ 32 4096#32))) p)

/-- A position that isn't negative is looked up as it is. -/
theorem wordR_apply (p : IVec S1x2048 32) (s : Fin 2048) (h : 0 ≤ (p (ix2 0 s)).toInt) : wordR p (ix3 0 s 0) = p (ix2 0 s) := by
  pointwise [wordR]
  have : IntOp.cmpi .slt (p (ix2 0 s)) 0#32 = 0#1 := by
    unfold IntOp.cmpi
    have hn : ¬ (p (ix2 0 s)).toInt < 0 := not_lt.mpr h
    simp [BitVec.slt, hn]
  rw [this]
  rfl

/-- A position in the table reads its own angles. -/
theorem gather_angle (V0 : Valuation τ sig (Elt Ideal)) (f : EReal → EReal) (p : IVec S1x2048 32) (s : Fin 2048) (d : Fin 64)
    (h0 : 0 ≤ (p (ix2 0 s)).toInt) (h1 : (p (ix2 0 s)).toInt < 4096) (x : FVec Ideal S4096x64 .f32)
    (hx : ∀ a d, x (ix2 a d) = f ((show FVec Ideal S4096x64 .f32 from res_main_v105 V0) (ix2 a d))) :
    Host.gather gather_S4096x64_S1x2048x1_S1x2048x64_2_0_n_n_0_2_164 x (wordR p) (ix3 0 s d) = f (angle (p (ix2 0 s)) d) := by
  rw [gather_rows, hx, table_apply]
  have e : BitVec.ofNat 32 (min (p (ix2 0 s)).toInt.toNat 4095) = p (ix2 0 s) := by
    rw [min_eq_left (by omega)]
    apply BitVec.eq_of_toInt_eq
    rw [BitVec.toInt_ofNat']
    have : ((p (ix2 0 s)).toInt.toNat : Int) = (p (ix2 0 s)).toInt := Int.toNat_of_nonneg h0
    rw [this]
    exact Int.bmod_eq_of_le (by norm_num; omega) (by norm_num; omega)
  show f (angle (BitVec.ofNat 32 (min (wordR p (ix3 0 s 0)).toInt.toNat 4095)) d) = _
  rw [wordR_apply p s h0, e]

/-- The cosine that is looked up is that of the position's angle, -/
theorem cos_apply (V0 : Valuation τ sig (Elt Ideal)) (p : IVec S1x2048 32) (hp : V0 (Proc.devRef .tc main_arg15) = p) (s : Fin 2048) (d : Fin 64)
    (h0 : 0 ≤ (p (ix2 0 s)).toInt) (h1 : (p (ix2 0 s)).toInt < 4096) :
    (show FVec Ideal S1x2048x64 .f32 from res_main_v113 V0) (ix3 0 s d) = Ideal.cos (angle (p (ix2 0 s)) d) := by
  subst hp
  exact gather_angle V0 Ideal.cos _ s d h0 h1 (Host.cos (show FVec Ideal S4096x64 .f32 from res_main_v105 V0)) fun _ _ => rfl

/-- and so is the sine. -/
theorem sin_apply (V0 : Valuation τ sig (Elt Ideal)) (p : IVec S1x2048 32) (hp : V0 (Proc.devRef .tc main_arg15) = p) (s : Fin 2048) (d : Fin 64)
    (h0 : 0 ≤ (p (ix2 0 s)).toInt) (h1 : (p (ix2 0 s)).toInt < 4096) :
    (show FVec Ideal S1x2048x64 .f32 from res_main_v121 V0) (ix3 0 s d) = Ideal.sin (angle (p (ix2 0 s)) d) := by
  subst hp
  exact gather_angle V0 Ideal.sin _ s d h0 h1 (Host.sin (show FVec Ideal S4096x64 .f32 from res_main_v105 V0)) fun _ _ => rfl

end Cert.ReferenceIdeal.Value
end
-- ==== Proof.Ref.Block.lean ====
module

public import proofs.«01_k».proof.Proof.Ref.Angle
public import Idealize.ShloMosaic.Lib.WordCmp

/-! The reference's attention and feed-forward experts over the extended reals, row by row. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Spec
open scoped BigOperators

/-- The scores of the positions, masked above the diagonal. -/
def scoresR (q k : FVec Ideal S1x2048x64 .f32) : FVec Ideal S1x2048x2048 .f32 :=
  select (broadcastInDim S1x2048x2048 ![1, 2] bcast_S2048x2048_S1x2048x2048_1_2 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1)))) (Host.divf (Host.dotGeneral dot_S1x2048x64_S1x2048x64_S1x2048x2048_2_2_1_1_0_0 none q k) (broadcastInDim S1x2048x2048 ![] bcast_S_S1x2048x2048 (Host.sqrt (constant S_ .f32 0x42800000#32)))) (broadcastInDim S1x2048x2048 ![] bcast_S_S1x2048x2048 (id (constant S_ .f32 0xFF800000#32)))

/-- The scores' term. -/
theorem v143_eq (V0 : Valuation τ sig (Elt Ideal)) :
    res_main_v143 V0 = scoresR (ropeR (res_main_v81 V0) (res_main_v113 V0) (res_main_v121 V0)) (ropeR (res_main_v84 V0) (res_main_v113 V0) (res_main_v121 V0)) := rfl

/-- A quotient by the root of 64 is the product with an eighth. -/
theorem div_sqrt_64 (x : EReal) : Ideal.div x (Ideal.sqrt (Ideal.ofBits .f32 0x42800000#32)) = x * (((1 : ℝ) / 8 : ℝ) : EReal) := by
  rw [ofBits_64, sqrt_coe (by norm_num), show Real.sqrt 64 = 8 by rw [show (64 : ℝ) = 8 ^ 2 by norm_num]; exact Real.sqrt_sq (by norm_num),
    div_coe_pos _ (by norm_num)]
  norm_num

/-- The fill of a masked score is the bottom. -/
theorem fill_low' : id (constant (F := Ideal) S_ FTy.f32 4286578688#32) ix0 = (⊥ : EReal) := ofBits_neg_inf

/-- A score: the product of query and key over the root of the head's size, masked past the diagonal. -/
theorem scoresR_apply (q k : FVec Ideal S1x2048x64 .f32) (s j : Fin 2048) :
    scoresR q k (ix3 0 s j) = score (fun d => q (ix3 0 s d)) (fun j d => k (ix3 0 j d)) s j := by
  pointwise [scoresR]
  rw [div_sqrt_64, show ∀ x : BitVec 32, IntOp.addi x 0#32 = x from fun x => BitVec.add_zero x, Idealize.ShloMosaic.WordCmp.cmpi_sge_ofNat (by omega) (by omega), fill_low']
  unfold score
  by_cases h : j ≤ s
  · rw [if_pos h, decide_eq_true (show j.val ≤ s.val from h)]
    rfl
  · rw [if_neg h, decide_eq_false (show ¬ j.val ≤ s.val from h)]
    rfl

/-- The largest score of each row. -/
def maxS (S : FVec Ideal S1x2048x2048 .f32) : FVec Ideal S1x2048 .f32 :=
  Host.reduce FloatOps.maximumf S (constant S_ .f32 0xFF800000#32) reducesTo_S1x2048x2048_S1x2048_d2 h_S_

/-- The greatest score of a row, -/
theorem maxS_apply (S : FVec Ideal S1x2048x2048 .f32) (s : Fin 2048) :
    maxS S (ix2 0 s) = Finset.univ.fold max (⊥ : EReal) fun j => S (ix3 0 s j) := by
  pointwise [maxS]
  rw [ofBits_neg_inf]

/-- The numerators of the softmax, from the largest scores. -/
def expS (S : FVec Ideal S1x2048x2048 .f32) (M : FVec Ideal S1x2048 .f32) : FVec Ideal S1x2048x2048 .f32 :=
  Host.exp (subf S (broadcastInDim S1x2048x2048 ![0, 1, 2] bcast_S1x2048x1_S1x2048x2048_0_1_2 (broadcastInDim S1x2048x1 ![0, 1] bcast_S1x2048_S1x2048x1_0_1 (maximumf (broadcastInDim S1x2048 ![] bcast_S_S1x2048 (constant S_ .f32 0xFF800000#32)) M))))

/-- the exponential of a score less it, -/
theorem expS_apply (S : FVec Ideal S1x2048x2048 .f32) (M : FVec Ideal S1x2048 .f32) (s j : Fin 2048) :
    expS S M (ix3 0 s j) = Ideal.exp (S (ix3 0 s j) - M (ix2 0 s)) := by
  pointwise [expS]
  rw [ofBits_neg_inf, max_eq_right bot_le]

/-- The weights of the softmax, from its numerators, and the average of the values. -/
def softR (E : FVec Ideal S1x2048x2048 .f32) (v : FVec Ideal S1x2048x64 .f32) : FVec Ideal S2048x64 .f32 :=
  shapeCast _ (Host.dotGeneral dot_S1x2048x2048_S1x2048x64_S1x2048x64_2_1_1_2_0_0 none (Host.divf E (broadcastInDim S1x2048x2048 ![0, 1, 2] bcast_S1x2048x1_S1x2048x2048_0_1_2 (broadcastInDim S1x2048x1 ![0, 1] bcast_S1x2048_S1x2048x1_0_1 (Host.reduceAdd E (constant S_ .f32 0x00000000#32) reducesTo_S1x2048x2048_S1x2048_d2 h_S_)))) v) shapeCasts_S1x2048x64_S2048x64

/-- and the values weighted with the exponentials over their sum. -/
theorem softR_apply (E : FVec Ideal S1x2048x2048 .f32) (v : FVec Ideal S1x2048x64 .f32) (s : Fin 2048) (d : Fin 64) :
    softR E v (ix2 s d) = ∑ j, Ideal.div (E (ix3 0 s j)) (∑ x, E (ix3 0 s x)) * v (ix3 0 j d) := by
  pointwise [softR]

/-- The attention. -/
def attnR (S : FVec Ideal S1x2048x2048 .f32) (v : FVec Ideal S1x2048x64 .f32) : FVec Ideal S2048x64 .f32 := softR (expS S (maxS S)) v

/-- A row of the attention is the softmax's average of the values. -/
theorem attnR_apply (S : FVec Ideal S1x2048x2048 .f32) (v : FVec Ideal S1x2048x64 .f32) (s : Fin 2048) (d : Fin 64) :
    attnR S v (ix2 s d) = softRow (fun j => S (ix3 0 s j)) fun j => v (ix3 0 j d) := by
  unfold attnR softRow
  rw [softR_apply]
  simp only [expS_apply, maxS_apply]

/-- The residual stream after the attention. -/
def afterR (X : FVec Ideal S1x2048x1024 .f32) (a : FVec Ideal S2048x64 .f32) (w : FVec Ideal S2048x8 .f32) (Wo : FVec Ideal S8x64x1024 .f32) :
    FVec Ideal S1x2048x1024 .f32 :=
  addf X (shapeCast _ (Host.dotGeneral dot_S2048x8x64_S8x64x1024_S2048x1024_12_01_0_2_n_n none (mulf (broadcastInDim S2048x8x64 ![0, 1, 2] bcast_S2048x1x64_S2048x8x64_0_1_2 (broadcastInDim S2048x1x64 ![0, 2] bcast_S2048x64_S2048x1x64_0_2 a)) (broadcastInDim S2048x8x64 ![0, 1, 2] bcast_S2048x8x1_S2048x8x64_0_1_2 (broadcastInDim S2048x8x1 ![0, 1] bcast_S2048x8_S2048x8x1_0_1 w))) Wo) shapeCasts_S2048x1024_S1x2048x1024)

/-- The term of the rows after the attention. -/
theorem v164_eq (V0 : Valuation τ sig (Elt Ideal)) :
    res_main_v164 V0 = afterR (V0 (Proc.devRef .tc main_arg0))
      (attnR (res_main_v143 V0) (mixR (res_main_v78 V0) (res_main_v24 V0) (V0 (Proc.devRef .tc main_arg7)))) (res_main_v78 V0)
      (V0 (Proc.devRef .tc main_arg8)) := rfl

/-- A row after the attention: the residual, and the experts' projections back. -/
theorem afterR_apply (X : FVec Ideal S1x2048x1024 .f32) (a : FVec Ideal S2048x64 .f32) (w : FVec Ideal S2048x8 .f32)
    (Wo : FVec Ideal S8x64x1024 .f32) (s : Fin 2048) (c : Fin 1024) :
    afterR X a w Wo (ix3 0 s c)
      = afterAttn (fun c => X (ix3 0 s c)) (fun d => a (ix2 s d)) (fun e => w (ix2 s e)) (fun e d c => Wo (ix3 e d c)) c := by
  pointwise [afterR]
  rfl

/-- The feed-forward experts. -/
def expertsR (h : FVec Ideal S2048x1024 .f32) (w : FVec Ideal S2048x8 .f32) (U : FVec Ideal S8x1024x256 .f32) (D : FVec Ideal S8x256x1024 .f32) :
    FVec Ideal S1x2048x1024 .f32 :=
  have u : FVec Ideal S2048x8x256 .f32 := Host.dotGeneral dot_S2048x1024_S8x1024x256_S2048x8x256_1_1_0_02_n_n none h U
  shapeCast _ (Host.dotGeneral dot_S2048x8x256_S8x256x1024_S2048x1024_12_01_0_2_n_n none (mulf (mulf u (Host.divf (broadcastInDim S2048x8x256 ![] bcast_S_S2048x8x256 (constant S_ .f32 0x3F800000#32)) (addf (broadcastInDim S2048x8x256 ![] bcast_S_S2048x8x256 (constant S_ .f32 0x3F800000#32)) (Host.exp (Host.negf u))))) (broadcastInDim S2048x8x256 ![0, 1, 2] bcast_S2048x8x1_S2048x8x256_0_1_2 (broadcastInDim S2048x8x1 ![0, 1] bcast_S2048x8_S2048x8x1_0_1 w))) D) shapeCasts_S2048x1024_S1x2048x1024

/-- The experts' output at a row. -/
theorem expertsR_apply (h : FVec Ideal S2048x1024 .f32) (w : FVec Ideal S2048x8 .f32) (U : FVec Ideal S8x1024x256 .f32)
    (D : FVec Ideal S8x256x1024 .f32) (s : Fin 2048) (c : Fin 1024) :
    expertsR h w U D (ix3 0 s c)
      = experts (fun k => h (ix2 s k)) (fun e => w (ix2 s e)) (fun e k i => U (ix3 e k i)) (fun e i c => D (ix3 e i c)) c := by
  pointwise [expertsR]
  rfl

end Cert.ReferenceIdeal.Value
end
-- ==== Proof.Ref.Whole.lean ====
module

public import proofs.«01_k».proof.Proof.Ref.Block

/-! The reference's result is the block's result, for positions that lie in the table. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Spec
open scoped BigOperators

variable (V0 : Valuation τ sig (Elt Ideal))

/-- The reference's arguments as the block's inputs. -/
def inputs : Inputs where
  x s k := (show FVec Ideal S1x2048x1024 .f32 from V0 (Proc.devRef .tc main_arg0)) (ix3 0 s k)
  w1 k := (show FVec Ideal S1024 .f32 from V0 (Proc.devRef .tc main_arg1)) (ix1 k)
  b1 k := (show FVec Ideal S1024 .f32 from V0 (Proc.devRef .tc main_arg2)) (ix1 k)
  S1 k e := (show FVec Ideal S1024x8 .f32 from V0 (Proc.devRef .tc main_arg3)) (ix2 k e)
  g1 e := (show FVec Ideal S8 .f32 from V0 (Proc.devRef .tc main_arg4)) (ix1 e)
  Wq e k d := (show FVec Ideal S8x1024x64 .f32 from V0 (Proc.devRef .tc main_arg5)) (ix3 e k d)
  Wk e k d := (show FVec Ideal S8x1024x64 .f32 from V0 (Proc.devRef .tc main_arg6)) (ix3 e k d)
  Wv e k d := (show FVec Ideal S8x1024x64 .f32 from V0 (Proc.devRef .tc main_arg7)) (ix3 e k d)
  Wo e d k := (show FVec Ideal S8x64x1024 .f32 from V0 (Proc.devRef .tc main_arg8)) (ix3 e d k)
  w2 k := (show FVec Ideal S1024 .f32 from V0 (Proc.devRef .tc main_arg9)) (ix1 k)
  b2 k := (show FVec Ideal S1024 .f32 from V0 (Proc.devRef .tc main_arg10)) (ix1 k)
  S2 k e := (show FVec Ideal S1024x8 .f32 from V0 (Proc.devRef .tc main_arg11)) (ix2 k e)
  g2 e := (show FVec Ideal S8 .f32 from V0 (Proc.devRef .tc main_arg12)) (ix1 e)
  up e k i := (show FVec Ideal S8x1024x256 .f32 from V0 (Proc.devRef .tc main_arg13)) (ix3 e k i)
  down e i k := (show FVec Ideal S8x256x1024 .f32 from V0 (Proc.devRef .tc main_arg14)) (ix3 e i k)
  pos s := (show IVec S1x2048 32 from V0 (Proc.devRef .tc main_arg15)) (ix2 0 s)

/-- The term of the queries before they are turned, -/
theorem v81_eq : res_main_v81 V0 = mixR (res_main_v78 V0) (res_main_v24 V0) (V0 (Proc.devRef .tc main_arg5)) := rfl
/-- and of the keys. -/
theorem v84_eq : res_main_v84 V0 = mixR (res_main_v78 V0) (res_main_v24 V0) (V0 (Proc.devRef .tc main_arg6)) := rfl

/-- The normalised rows. -/
theorem rows_apply (s : Fin 2048) : (fun k => (show FVec Ideal S2048x1024 .f32 from res_main_v24 V0) (ix2 s k)) = (inputs V0).h s :=
  funext fun k => (congrFun (v24_eq V0) (ix2 s k)).trans (normR_apply _ _ _ s k)

/-- The attention experts' weights. -/
theorem weights_apply (s : Fin 2048) : (fun e => (show FVec Ideal S2048x8 .f32 from res_main_v78 V0) (ix2 s e)) = (inputs V0).w s := by
  funext e
  refine (congrFun ((v78_eq V0).trans (congrArg weightR (v50_eq V0))) (ix2 s e)).trans ?_
  refine (gateR_apply _ _ _ s e).trans ?_
  exact congrArg (fun z => gate z (inputs V0).S1 (inputs V0).g1 e) (rows_apply V0 s)

/-- A mixed projection. -/
theorem mix_apply (W : FVec Ideal S8x1024x64 .f32) (s : Fin 2048) (d : Fin 64) :
    mixR (res_main_v78 V0) (res_main_v24 V0) W (ix3 0 s d) = mix ((inputs V0).w s) ((inputs V0).h s) (fun e k d => W (ix3 e k d)) d :=
  (mixR_apply _ _ W s d).trans (congrArg₂ (fun w h => mix w h (fun e k d => W (ix3 e k d)) d) (weights_apply V0 s) (rows_apply V0 s))

variable (hpos : ∀ s, 0 ≤ ((inputs V0).pos s).toInt ∧ ((inputs V0).pos s).toInt < 4096)
include hpos

/-- A rotated projection. -/
theorem rot_apply (W : FVec Ideal S8x1024x64 .f32) (s : Fin 2048) (d : Fin 64) :
    ropeR (mixR (res_main_v78 V0) (res_main_v24 V0) W) (res_main_v113 V0) (res_main_v121 V0) (ix3 0 s d)
      = rope (mix ((inputs V0).w s) ((inputs V0).h s) (fun e k d => W (ix3 e k d))) ((inputs V0).cs s) ((inputs V0).sn s) d := by
  refine (ropeR_apply _ _ _ s d).trans ?_
  have hm := funext fun d => mix_apply V0 W s d
  have hc : (fun d => (show FVec Ideal S1x2048x64 .f32 from res_main_v113 V0) (ix3 0 s d)) = (inputs V0).cs s :=
    funext fun d => cos_apply V0 _ rfl s d (hpos s).1 (hpos s).2
  have hs : (fun d => (show FVec Ideal S1x2048x64 .f32 from res_main_v121 V0) (ix3 0 s d)) = (inputs V0).sn s :=
    funext fun d => sin_apply V0 _ rfl s d (hpos s).1 (hpos s).2
  rw [hm]
  exact congrArg₂ (fun a b => rope _ a b d) hc hs

/-- The scores. -/
theorem scores_apply (s : Fin 2048) :
    (fun j => (show FVec Ideal S1x2048x2048 .f32 from res_main_v143 V0) (ix3 0 s j)) = score ((inputs V0).q s) (inputs V0).k s := by
  funext j
  refine (congrFun (v143_eq V0) (ix3 0 s j)).trans ((scoresR_apply _ _ s j).trans ?_)
  exact congrArg₂ (fun a b => score a b s j) (funext fun d => rot_apply V0 hpos _ s d) (funext fun j => funext fun d => rot_apply V0 hpos _ j d)

/-- The residual stream after the attention. -/
theorem after_apply (s : Fin 2048) :
    (fun c => (show FVec Ideal S1x2048x1024 .f32 from res_main_v164 V0) (ix3 0 s c)) = (inputs V0).h1 s := by
  funext c
  refine (congrFun (v164_eq V0) (ix3 0 s c)).trans ((afterR_apply _ _ _ _ s c).trans ?_)
  have ha : (fun d => attnR (res_main_v143 V0) (mixR (res_main_v78 V0) (res_main_v24 V0) (V0 (Proc.devRef .tc main_arg7))) (ix2 s d)) = (inputs V0).attn s := by
    funext d
    refine (attnR_apply _ _ s d).trans ?_
    exact congrArg₂ softRow (scores_apply V0 hpos s) (funext fun j => mix_apply V0 _ j d)
  exact congrArg₂ (fun a w => afterAttn ((inputs V0).x s) a w (inputs V0).Wo c) ha (weights_apply V0 s)

/-- Its normalised rows. -/
theorem afterNorm_apply (s : Fin 2048) :
    (fun k => (show FVec Ideal S2048x1024 .f32 from res_main_v189 V0) (ix2 s k)) = (inputs V0).h2 s := by
  funext k
  refine (congrFun (v189_eq V0) (ix2 s k)).trans ((normR_apply _ _ _ s k).trans ?_)
  exact congrArg (fun z => norm z (inputs V0).w2 (inputs V0).b2 k) (after_apply V0 hpos s)

omit hpos in
/-- The result. -/
def resultR : FVec Ideal S1x2048x1024 .f32 :=
  addf (res_main_v164 V0) (expertsR (res_main_v189 V0) (weightR (res_main_v215 V0)) (V0 (Proc.devRef .tc main_arg13)) (V0 (Proc.devRef .tc main_arg14)))

/-- The result is the block's. -/
theorem resultR_apply (s : Fin 2048) (c : Fin 1024) : resultR V0 (ix3 0 s c) = (inputs V0).out s c := by
  have hg : (fun e => weightR (res_main_v215 V0) (ix2 s e)) = gate ((inputs V0).h2 s) (inputs V0).S2 (inputs V0).g2 := by
    funext e
    refine (congrFun (congrArg weightR (v215_eq V0)) (ix2 s e)).trans ((gateR_apply _ _ _ s e).trans ?_)
    exact congrArg (fun z => gate z (inputs V0).S2 (inputs V0).g2 e) (afterNorm_apply V0 hpos s)
  refine congrArg₂ (· + ·) (congrFun (after_apply V0 hpos s) c) ((expertsR_apply _ _ _ _ s c).trans ?_)
  exact congrArg₂ (fun h w => experts h w (inputs V0).up (inputs V0).down c) (afterNorm_apply V0 hpos s) hg

end Cert.ReferenceIdeal.Value
end
-- ==== Proof.Ref.Claims.lean ====
module

public import proofs.«01_k».proof.Proof.Ref.Whole
public import Idealize.ShloMosaic.Lib.Quiescent

/-! The reference's claims: its run ends quiet with the arguments unchanged, and with the block's output in the result. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Spec

variable (m : (ℓ : Loc nD τ sig) → Buf (Elt Ideal) ℓ) (ρ : Dev nD → PrngReg)

/-- The arguments end unchanged. -/
theorem args_unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run m ρ)

/-- The program has no semaphores, so that every one is at zero. -/
theorem counters_zero : θ_run defs (onTc (τ := τ) (main (F := Ideal))) ⟨m, fun _ => 0, ρ⟩ (fun r => r.2.sem = fun _ => 0) :=
  (θ_run defs _ _).mono (fun r _ => sem_eq_zero_of_no_sems (by decide) r.2) (run m ρ)

/-- The result's term is the result as it was described. -/
theorem result_term : θ_run defs (onTc (τ := τ) (main (F := Ideal))) ⟨m, fun _ => 0, ρ⟩ (fun r => ∀ c : Dev nD,
      r.2.mem ((c.tc : Thread nD τ).loc main_v251) = resultR (launchContents m c)) :=
  (θ_run defs _ _).mono (fun _ h c => (h c).1.trans rfl) (run m ρ)

/-- The result the reference ends with, for positions that lie in the table. -/
theorem result_value (hpos : ∀ c s, 0 ≤ ((inputs (launchContents m c)).pos s).toInt ∧ ((inputs (launchContents m c)).pos s).toInt < 4096) :
    θ_run defs (onTc (τ := τ) (main (F := Ideal))) ⟨m, fun _ => 0, ρ⟩ (fun r => ∀ c : Dev nD,
      r.2.mem ((c.tc : Thread nD τ).loc main_v251)
        = (fun i => (inputs (launchContents m c)).out (i 1) (i 2) : FVec Ideal S1x2048x1024 .f32)) := by
  refine (θ_run defs _ _).mono (fun _ h c => (h c).trans ?_) (result_term m ρ)
  funext i
  have h0 : (show Fin 1 from i 0) = 0 := Subsingleton.elim _ _
  exact (congrArg (resultR (launchContents m c)) ((eq_ix3 (show S1x2048x1024.Idx from i)).trans (congrArg (fun a => ix3 a (i 1) (i 2)) h0))).trans
    (resultR_apply _ (hpos c) _ _)

end Cert.ReferenceIdeal.Value
end
-- ==== Proof.Agree.lean ====
module

public import proofs.«01_k».proof.Proof.Launch.Host
public import proofs.«01_k».proof.Proof.Ref.Whole

/-! The two programs' arguments, where they agree, are the same inputs of the block. -/

@[expose] public section

noncomputable section

namespace Cert.Spec

/-- Inputs are equal when each of their arrays is. -/
theorem inputs_ext {I J : Inputs} (h_x : I.x = J.x) (h_w1 : I.w1 = J.w1) (h_b1 : I.b1 = J.b1) (h_S1 : I.S1 = J.S1) (h_g1 : I.g1 = J.g1) (h_Wq : I.Wq = J.Wq) (h_Wk : I.Wk = J.Wk) (h_Wv : I.Wv = J.Wv) (h_Wo : I.Wo = J.Wo) (h_w2 : I.w2 = J.w2) (h_b2 : I.b2 = J.b2) (h_S2 : I.S2 = J.S2) (h_g2 : I.g2 = J.g2) (h_up : I.up = J.up) (h_down : I.down = J.down) (h_pos : I.pos = J.pos) : I = J := by
  cases I; cases J
  dsimp only at *
  subst h_x h_w1 h_b1 h_S1 h_g1 h_Wq h_Wk h_Wv h_Wo h_w2 h_b2 h_S2 h_g2 h_up h_down h_pos
  rfl

end Cert.Spec

namespace Cert.KernelIdeal.Gen

open Idealize.ShloMosaic Idealize.ShloMosaic.TcCoe Idealize.SL.Sem
open Cert.Spec

/-- From memories that agree on the arguments, the reference computes from the kernel's inputs. -/
theorem inputs_agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)) :
    Cert.ReferenceIdeal.Value.inputs (StableHlo.launchContents m' c) = inputs m c := by
  obtain ⟨h0, h1, h2, h3, h4, h5, h6, h7, h8, h9, h10, h11, h12, h13, h14, h15⟩ := h
  exact inputs_ext
    (funext fun a => funext fun b => congrArg (fun z : FVec Ideal S1x2048x1024 .f32 => z (ix3 0 a b)) h0)
    (funext fun a => congrArg (fun z : FVec Ideal S1024 .f32 => z (ix1 a)) h1)
    (funext fun a => congrArg (fun z : FVec Ideal S1024 .f32 => z (ix1 a)) h2)
    (funext fun a => funext fun b => congrArg (fun z : FVec Ideal S1024x8 .f32 => z (ix2 a b)) h3)
    (funext fun a => congrArg (fun z : FVec Ideal S8 .f32 => z (ix1 a)) h4)
    (funext fun a => funext fun b => funext fun d => congrArg (fun z : FVec Ideal S8x1024x64 .f32 => z (ix3 a b d)) h5)
    (funext fun a => funext fun b => funext fun d => congrArg (fun z : FVec Ideal S8x1024x64 .f32 => z (ix3 a b d)) h6)
    (funext fun a => funext fun b => funext fun d => congrArg (fun z : FVec Ideal S8x1024x64 .f32 => z (ix3 a b d)) h7)
    (funext fun a => funext fun b => funext fun d => congrArg (fun z : FVec Ideal S8x64x1024 .f32 => z (ix3 a b d)) h8)
    (funext fun a => congrArg (fun z : FVec Ideal S1024 .f32 => z (ix1 a)) h9)
    (funext fun a => congrArg (fun z : FVec Ideal S1024 .f32 => z (ix1 a)) h10)
    (funext fun a => funext fun b => congrArg (fun z : FVec Ideal S1024x8 .f32 => z (ix2 a b)) h11)
    (funext fun a => congrArg (fun z : FVec Ideal S8 .f32 => z (ix1 a)) h12)
    (funext fun a => funext fun b => funext fun d => congrArg (fun z : FVec Ideal S8x1024x256 .f32 => z (ix3 a b d)) h13)
    (funext fun a => funext fun b => funext fun d => congrArg (fun z : FVec Ideal S8x256x1024 .f32 => z (ix3 a b d)) h14)
    (funext fun a => congrArg (fun z : IVec S1x2048 32 => z (ix2 0 a)) h15)
end Cert.KernelIdeal.Gen
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores
public import proofs.«01_k».proof.Proof.KFrame.Frame
public import proofs.«01_k».proof.Proof.Launch.Claims
public import proofs.«01_k».proof.Proof.Launch.Pre
public import proofs.«01_k».proof.Proof.Ref.Claims
public import proofs.«01_k».proof.Proof.Agree
public import Idealize.ShloMosaic.Adequacy
public import Idealize.ShloMosaic.Init

/-! The certificate: the frames of the three programs, the named constant, and the kernel's result beside the reference's. -/

@[expose] public section

noncomputable section

namespace Cert.Proof

open Idealize.ShloMosaic Idealize.SL.Sem Cert.Kernel

/-- The kernel's run at the hardware's floats: it ends quiet, with the arguments unchanged. -/
theorem frame_kernel : Cert.quiescent_Kernel := fun m g _ => Cert.Kernel.Gen.frame m g

/-- The same of the kernel at the extended reals. -/
theorem frame_ideal : Cert.quiescent_KernelIdeal := fun m g _ =>
  θ_run_and (Cert.KernelIdeal.Gen.args_unchanged m g) (Cert.KernelIdeal.Gen.counters_zero m g)

/-- The same of the reference. -/
theorem frame_reference : Cert.quiescent_ReferenceIdeal := fun m g _ =>
  θ_run_and (Cert.ReferenceIdeal.Value.args_unchanged m g) (Cert.ReferenceIdeal.Value.counters_zero m g)

/-- The named constant: the mask's word stands for -infinity. -/
theorem mask_named : Cert.preserves_Kernel_KernelIdeal := IdealRules.named_const.statement _ _ _ _ _ rfl

/-- The kernel and the reference end with the same result: the block's output. -/
theorem same_result : Cert.algebraic_KernelIdeal_ReferenceIdeal_pre_finite_scores := by
  intro m g m' g' hpre hagree
  refine ⟨fun c => (fun i => (Cert.KernelIdeal.Gen.inputs m c).out (i 1) (i 2) : FVec Ideal Cert.KernelIdeal.S1x2048x1024 .f32),
    (θ_run _ _ _).mono (fun _ h c => ⟨h.1 c, h.2 c⟩)
      (θ_run_and (Cert.KernelIdeal.Gen.result_value m g fun c => Cert.KernelIdeal.Gen.pre_finite m c hpre) (Cert.KernelIdeal.Gen.args_unchanged m g)), ?_⟩
  have hin := fun c => Cert.KernelIdeal.Gen.inputs_agree m m' c (hagree c)
  refine (θ_run _ _ _).mono (fun _ h c => ⟨(h.1 c).trans ?_, h.2 c⟩)
      (θ_run_and (Cert.ReferenceIdeal.Value.result_value m' g' fun c s => ?_) (Cert.ReferenceIdeal.Value.args_unchanged m' g'))
  · rw [hin c]
    exact Cert.KernelIdeal.Gen.pre_pos m c hpre s
  · rw [hin c]

theorem claim : Cert.Claim := ⟨Cert.Kernel.Gen.facts, Cert.KernelIdeal.Gen.facts, Cert.ReferenceIdeal.Gen.facts, Cert.Pre_finite_scores.Gen.facts,
  frame_kernel, frame_ideal, fun m g _ => frame_ideal m g trivial, frame_reference, fun m g _ => frame_reference m g trivial,
  mask_named, same_result⟩

end Cert.Proof

end
